-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v120) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v125) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v94) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v47_0)) (v1 : (c : Dev Cert.Kernel5Ideal.nD) → Buf (Elt Ideal) ((c.tc : Thread Cert.Kernel5Ideal.nD Cert.Kernel5Ideal.τ).loc Cert.Kernel5Ideal.main_v47_3)) (v2 : (c : Dev Cert.Kernel5Ideal.nD) → Buf (Elt Ideal) ((c.tc : Thread Cert.Kernel5Ideal.nD Cert.Kernel5Ideal.τ).loc Cert.Kernel5Ideal.main_v47_4)) (v3 : (c : Dev Cert.Kernel5Ideal.nD) → Buf (Elt Ideal) ((c.tc : Thread Cert.Kernel5Ideal.nD Cert.Kernel5Ideal.τ).loc Cert.Kernel5Ideal.main_v47_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v47_0) = v0 c
          ∧ r.2.mem ((c.tc : Thread Cert.Kernel5Ideal.nD Cert.Kernel5Ideal.τ).loc Cert.Kernel5Ideal.main_v47_3) = v1 c
          ∧ r.2.mem ((c.tc : Thread Cert.Kernel5Ideal.nD Cert.Kernel5Ideal.τ).loc Cert.Kernel5Ideal.main_v47_4) = v2 c
          ∧ r.2.mem ((c.tc : Thread Cert.Kernel5Ideal.nD Cert.Kernel5Ideal.τ).loc Cert.Kernel5Ideal.main_v47_5) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v110) = v0 c
          ∧ r.2.mem ((c.tc : Thread Cert.Reference5Ideal.nD Cert.Reference5Ideal.τ).loc Cert.Reference5Ideal.main_v114) = v1 c
          ∧ r.2.mem ((c.tc : Thread Cert.Reference5Ideal.nD Cert.Reference5Ideal.τ).loc Cert.Reference5Ideal.main_v112) = v2 c
          ∧ r.2.mem ((c.tc : Thread Cert.Reference5Ideal.nD Cert.Reference5Ideal.τ).loc Cert.Reference5Ideal.main_v113) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x8x96 : Shape := ⟨3, ![8192, 8, 96]⟩
abbrev S8192x512 : Shape := ⟨2, ![8192, 512]⟩
abbrev S2x512x8x96 : Shape := ⟨4, ![2, 512, 8, 96]⟩
abbrev S2x512x512 : Shape := ⟨3, ![2, 512, 512]⟩
abbrev S1024x8x96 : Shape := ⟨3, ![1024, 8, 96]⟩
abbrev S17408x8x96 : Shape := ⟨3, ![17408, 8, 96]⟩
abbrev S_ : Shape := ⟨0, ![]⟩

class Facts : Prop where
  shapeCasts_S2x512x8x96_S1024x8x96 : S2x512x8x96.ShapeCasts S1024x8x96
  concatenates_S8192x8x96_S8192x8x96_S1024x8x96_S17408x8x96_d0 : Shape.Concatenates [S8192x8x96, S8192x8x96, S1024x8x96] S17408x8x96 0
  bcast_S_S17408x8x96 : S_.BroadcastsInDim S17408x8x96 (![] : Fin 0 → Fin S17408x8x96.rank)

variable [Facts]

def fn {F : FTy → Type} [FloatOps F] (main_arg0 : FVec F S8192x8x96 .bf16) (main_arg1 : FVec F S8192x8x96 .bf16) (main_arg2 : FVec F S8192x512 .bf16) (main_arg3 : FVec F S2x512x8x96 .bf16) (main_arg4 : FVec F S2x512x512 .bf16) : IVec S17408x8x96 1 :=
  let main_v0 : FVec F S1024x8x96 .bf16 := shapeCast S1024x8x96 main_arg3 shapeCasts_S2x512x8x96_S1024x8x96
  let main_v1 : FVec F S17408x8x96 .bf16 := concatenate S17408x8x96 0 [⟨S8192x8x96, main_arg0⟩, ⟨S8192x8x96, main_arg1⟩, ⟨S1024x8x96, main_v0⟩] concatenates_S8192x8x96_S8192x8x96_S1024x8x96_S17408x8x96_d0
  let main_v2 : FVec F S17408x8x96 .bf16 := Host.absf main_v1
  let main_cst : FVec F S_ .bf16 := constant S_ .bf16 0x7F80#16
  let main_v3 : FVec F S17408x8x96 .bf16 := broadcastInDim S17408x8x96 ![] bcast_S_S17408x8x96 main_cst
  let main_v4 : IVec S17408x8x96 1 := cmpf .olt main_v2 main_v3
  main_v4
-- ==== Kernel.lean ====
abbrev S8192x8x96 : Shape := ⟨3, ![8192, 8, 96]⟩
abbrev S8192x512 : Shape := ⟨2, ![8192, 512]⟩
abbrev S2x512x8x96 : Shape := ⟨4, ![2, 512, 8, 96]⟩
abbrev S2x512x512 : Shape := ⟨3, ![2, 512, 512]⟩
abbrev S_ : Shape := ⟨0, ![]⟩
abbrev S8192x8x128 : Shape := ⟨3, ![8192, 8, 128]⟩
abbrev S8192x1024 : Shape := ⟨2, ![8192, 1024]⟩
abbrev S2x512x8x128 : Shape := ⟨4, ![2, 512, 8, 128]⟩
abbrev S2x512x1024 : Shape := ⟨3, ![2, 512, 1024]⟩
abbrev S4096x512 : Shape := ⟨2, ![4096, 512]⟩
abbrev S512x1024 : Shape := ⟨2, ![512, 1024]⟩
abbrev S2048x1024 : Shape := ⟨2, ![2048, 1024]⟩
abbrev S2048x512 : Shape := ⟨2, ![2048, 512]⟩
abbrev S1x512x1024 : Shape := ⟨3, ![1, 512, 1024]⟩
abbrev S1x512x512 : Shape := ⟨3, ![1, 512, 512]⟩
abbrev S512x512 : Shape := ⟨2, ![512, 512]⟩
abbrev S1x128 : Shape := ⟨2, ![1, 128]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1x512x128 : Shape := ⟨3, ![1, 512, 128]⟩

abbrev nBuf : Space → Nat
  | .hbm => 18
  | .vmem => 12
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x512, .bf16⟩
  | .hbm, ⟨3, _⟩ => ⟨S2x512x8x96, .bf16⟩
  | .hbm, ⟨4, _⟩ => ⟨S2x512x512, .bf16⟩
  | .hbm, ⟨5, _⟩ => ⟨S_, .i32⟩
  | .hbm, ⟨6, _⟩ => ⟨S_, .bf16⟩
  | .hbm, ⟨7, _⟩ => ⟨S8192x8x128, .bf16⟩
  | .hbm, ⟨8, _⟩ => ⟨S8192x1024, .bf16⟩
  | .hbm, ⟨9, _⟩ => ⟨S_, .i32⟩
  | .hbm, ⟨10, _⟩ => ⟨S_, .bf16⟩
  | .hbm, ⟨11, _⟩ => ⟨S8192x8x128, .bf16⟩
  | .hbm, ⟨12, _⟩ => ⟨S8192x1024, .bf16⟩
  | .hbm, ⟨13, _⟩ => ⟨S_, .i32⟩
  | .hbm, ⟨14, _⟩ => ⟨S_, .bf16⟩
  | .hbm, ⟨15, _⟩ => ⟨S2x512x8x128, .bf16⟩
  | .hbm, ⟨16, _⟩ => ⟨S2x512x1024, .bf16⟩
  | .hbm, ⟨17, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x512, .bf16⟩
  | .local _ .vmem, ⟨9, _⟩ => ⟨S1x512x512, .bf16⟩
  | .local _ .vmem, ⟨10, _⟩ => ⟨S512x512, .bf16⟩
  | .local _ .vmem, ⟨11, _⟩ => ⟨S512x512, .bf16⟩
  | _, _ => ⟨S8192x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x8x96 : Shape := ⟨3, ![8192, 8, 96]⟩
abbrev S8192x512 : Shape := ⟨2, ![8192, 512]⟩
abbrev S2x512x8x96 : Shape := ⟨4, ![2, 512, 8, 96]⟩
abbrev S2x512x512 : Shape := ⟨3, ![2, 512, 512]⟩
abbrev S4096x8x96 : Shape := ⟨3, ![4096, 8, 96]⟩
abbrev S2x2048x8x96 : Shape := ⟨4, ![2, 2048, 8, 96]⟩
abbrev S4096x512 : Shape := ⟨2, ![4096, 512]⟩
abbrev S2x2048x8x64 : Shape := ⟨4, ![2, 2048, 8, 64]⟩
abbrev S2x512x8x64 : Shape := ⟨4, ![2, 512, 8, 64]⟩
abbrev S2x2560x8x96 : Shape := ⟨4, ![2, 2560, 8, 96]⟩
abbrev S2x2560x8x64 : Shape := ⟨4, ![2, 2560, 8, 64]⟩
abbrev S2x8x2048x2560 : Shape := ⟨4, ![2, 8, 2048, 2560]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x512, .bf16⟩
  | .hbm, ⟨3, _⟩ => ⟨S2x512x8x96, .bf16⟩
  | .hbm, ⟨4, _⟩ => ⟨S2x512x512, .bf16⟩
  | .hbm, ⟨5, _⟩ => ⟨S8192x8x96, .f32⟩
  | .hbm, ⟨6, _⟩ => ⟨S8192x8x96, .f32⟩
  | .hbm, ⟨7, _⟩ => ⟨S8192x512, .f32⟩
  | .hbm, ⟨8, _⟩ => ⟨S2x512x8x96, .f32⟩
  | .hbm, ⟨9, _⟩ => ⟨S2x512x512, .f32⟩
  | .hbm, ⟨10, _⟩ => ⟨S4096x8x96, .f32⟩
  | .hbm, ⟨11, _⟩ => ⟨S2x2048x8x96, .f32⟩
  | .hbm, ⟨12, _⟩ => ⟨S4096x8x96, .f32⟩
  | .hbm, ⟨13, _⟩ => ⟨S2x2048x8x96, .f32⟩
  | .hbm, ⟨14, _⟩ => ⟨S4096x512, .f32⟩
  | .hbm, ⟨15, _⟩ => ⟨S2x2048x8x64, .f32⟩
  | .hbm, ⟨16, _⟩ => ⟨S2x512x8x64, .f32⟩
  | .hbm, ⟨17, _⟩ => ⟨S2x2560x8x96, .f32⟩
  | .hbm, ⟨18, _⟩ => ⟨S2x2560x8x64, .f32⟩
  | .hbm, ⟨19, _⟩ => ⟨S2x8x2048x2560, .f32⟩
  | .hbm, ⟨20, _⟩ => ⟨S_, .f32⟩
  | .hbm, ⟨21, _⟩ => ⟨S2x8x2048x2560, .f32⟩
  | .hbm, ⟨22, _⟩ => ⟨S2x8x2048x2560, .f32⟩
  | .hbm, ⟨23, _⟩ => ⟨S_, .f32⟩
  | .hbm, ⟨24, _⟩ => ⟨S2x8x2048, .f32⟩
  | .hbm, ⟨25, _⟩ => ⟨S_, .f32⟩
  | .hbm, ⟨26, _⟩ => ⟨S2x8x2048, .f32⟩
  | .hbm, ⟨27, _⟩ => ⟨S2x8x2048, .f32⟩
  | .hbm, ⟨28, _⟩ => ⟨S2x8x2048x1, .f32⟩
  | .hbm, ⟨29, _⟩ => ⟨S2x8x2048x2560, .f32⟩
  | .hbm, ⟨30, _⟩ => ⟨S2x8x2048x2560, .f32⟩
  | .hbm, ⟨31, _⟩ => ⟨S2x8x2048x2560, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2560, .f32⟩
  | .hbm, ⟨36, _⟩ => ⟨S2x8x2048x2560, .f32⟩
  | .hbm, ⟨37, _⟩ => ⟨S2x8x64x2048, .f32⟩
  | .hbm, ⟨38, _⟩ => ⟨S2x2048x8x64, .f32⟩
  | .hbm, ⟨39, _⟩ => ⟨S4096x512, .f32⟩
  | .hbm, ⟨40, _⟩ => ⟨S4096x512, .bf16⟩
  | _, _ => ⟨S8192x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel2.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S4096x1024 : Shape := ⟨2, ![4096, 1024]⟩
abbrev S8192x1024 : Shape := ⟨2, ![8192, 1024]⟩
abbrev S1x3x1024 : Shape := ⟨3, ![1, 3, 1024]⟩
abbrev S3x1024 : Shape := ⟨2, ![3, 1024]⟩
abbrev S1x1024 : Shape := ⟨2, ![1, 1024]⟩
abbrev S1024x1024 : Shape := ⟨2, ![1024, 1024]⟩
abbrev S1x1x1024x256 : Shape := ⟨4, ![1, 1, 1024, 256]⟩
abbrev S1x1x256x1024 : Shape := ⟨4, ![1, 1, 256, 1024]⟩
abbrev S1x9x1024 : Shape := ⟨3, ![1, 9, 1024]⟩
abbrev S9x1024 : Shape := ⟨2, ![9, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 15
  | .vmem => 15
  | .smem => 0
  | _ => 0

abbrev bufTy : (tb : Table) → Fin (tcTables nBuf tb) → BufTy
  | .hbm, ⟨0, _⟩ => ⟨S16x256x1024, .f32⟩
  | .hbm, ⟨1, _⟩ => ⟨S2x2048x1024, .f32⟩
  | .hbm, ⟨2, _⟩ => ⟨S3x9x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S8192x1024, .f32⟩
  | .hbm, ⟨10, _⟩ => ⟨S1x3x1024, .f32⟩
  | .hbm, ⟨11, _⟩ => ⟨S3x1024, .f32⟩
  | .hbm, ⟨12, _⟩ => ⟨S1x1024, .f32⟩
  | .hbm, ⟨13, _⟩ => ⟨S1x1024, .f32⟩
  | .hbm, ⟨14, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S3x9x1024, .f32⟩
  | .local _ .vmem, ⟨3, _⟩ => ⟨S1x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 11], ![false, false]⟩

def k0_off1 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let c0_i32_6 : BitVec 32 := 0#32
  let c1_i32_5 : BitVec 32 := 1#32
  let c4096_i32_0 : BitVec 32 := 4096#32
  let v2 : BitVec 32 := Scalar.subi v0 c4096_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let v3 : BitVec 32 := Scalar.divsi v2 c2048_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v22 : Index := Scalar.indexCast v21
  let c0 : Index := 0#32
  let c0_7 : Index := 0#32
  ![v22.toNat, 0, 0]
def k0_cond2 (i : grid0.Coords) : BitVec 1 :=
  let arg1 : BitVec 32 := BitVec.ofNat 32 (i 1).val
  let c10_i32 : BitVec 32 := 10#32
  let v56 : BitVec 1 := Scalar.cmpi .eq arg1 c10_i32
  let v57 : BitVec 32 := Scalar.extui v56
  let c0_i32_33 : BitVec 32 := 0#32
  let v58 : BitVec 1 := Scalar.cmpi .ne v57 c0_i32_33
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S1x9x1024 : Shape := ⟨3, ![1, 9, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16x256x5632 : Shape := ⟨3, ![16, 256, 5632]⟩
abbrev S16x256x2816 : Shape := ⟨3, ![16, 256, 2816]⟩
abbrev S2x9x1024 : Shape := ⟨3, ![2, 9, 1024]⟩
abbrev S2x1x1024 : Shape := ⟨3, ![2, 1, 1024]⟩
abbrev S2x1024 : Shape := ⟨2, ![2, 1024]⟩
abbrev S2x2048 : Shape := ⟨2, ![2, 2048]⟩
abbrev S2x2048x1 : Shape := ⟨3, ![2, 2048, 1]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S8192x1024 : Shape := ⟨2, ![8192, 1024]⟩

abbrev nBuf : Space → Nat
  | .hbm => 160
  | .vmem => 0
  | .smem => 0
  | _ => 0

abbrev hbmTy0_0 (i : Nat) : BufTy := match i % 128 with
  | 0 => ⟨S16x256x1024, .f32⟩
  | 1 => ⟨S2x2048x1024, .f32⟩
  | 2 => ⟨S3x9x1024, .f32⟩
  | 3 => ⟨S2x3x1024, .f32⟩
  | 4 => ⟨S2x2x1024x5632, .f32⟩
  | 5 => ⟨S2x2x2816x1024, .f32⟩
  | 6 => ⟨S1024, .f32⟩
  | 7 => ⟨S1x9x1024, .f32⟩
  | 8 => ⟨S1x1x1024, .f32⟩
  | 9 => ⟨S1x1024, .f32⟩
  | 10 => ⟨S1x1x1024, .f32⟩
  | 11 => ⟨S1x1x1024, .f32⟩
  | 12 => ⟨S1x1024, .f32⟩
  | 13 => ⟨S1x1x1024, .f32⟩
  | 14 => ⟨S1x1x1024, .f32⟩
  | 15 => ⟨S1x1024, .f32⟩
  | 16 => ⟨S1x1x1024, .f32⟩
  | 17 => ⟨S1x1x1024, .f32⟩
  | 18 => ⟨S1024, .f32⟩
  | 19 => ⟨S16x256x1024, .f32⟩
  | 20 => ⟨S_, .f32⟩
  | 21 => ⟨S16x256, .f32⟩
  | 22 => ⟨S16x256x1, .f32⟩
  | 23 => ⟨S_, .f32⟩
  | 24 => ⟨S16x256x1, .f32⟩
  | 25 => ⟨S16x256x1, .f32⟩
  | 26 => ⟨S_, .f32⟩
  | 27 => ⟨S16x256x1, .f32⟩
  | 28 => ⟨S16x256x1, .f32⟩
  | 29 => ⟨S16x256x1, .f32⟩
  | 30 => ⟨S16x256x1024, .f32⟩
  | 31 => ⟨S16x256x1024, .f32⟩
  | 32 => ⟨S1x1x1024, .f32⟩
  | 33 => ⟨S16x256x1024, .f32⟩
  | 34 => ⟨S16x256x1024, .f32⟩
  | 35 => ⟨S_, .f32⟩
  | 36 => ⟨S1x1x1024, .f32⟩
  | 37 => ⟨S1x1x1024, .f32⟩
  | 38 => ⟨S16x256x1024, .f32⟩
  | 39 => ⟨S16x256x1024, .f32⟩
  | 40 => ⟨S16x256x1024, .f32⟩
  | 41 => ⟨S16x256x1024, .f32⟩
  | 42 => ⟨S_, .f32⟩
  | 43 => ⟨S1x1x1024, .f32⟩
  | 44 => ⟨S1x1x1024, .f32⟩
  | 45 => ⟨S1x1x1024x5632, .f32⟩
  | 46 => ⟨S1024x5632, .f32⟩
  | 47 => ⟨S1x1x2816x1024, .f32⟩
  | 48 => ⟨S2816x1024, .f32⟩
  | 49 => ⟨S16x256x5632, .f32⟩
  | 50 => ⟨S16x256x2816, .f32⟩
  | 51 => ⟨S16x256x2816, .f32⟩
  | 52 => ⟨S16x256x2816, .f32⟩
  | 53 => ⟨S16x256x2816, .f32⟩
  | 54 => ⟨S_, .f32⟩
  | 55 => ⟨S16x256x2816, .f32⟩
  | 56 => ⟨S16x256x2816, .f32⟩
  | 57 => ⟨S_, .f32⟩
  | 58 => ⟨S16x256x2816, .f32⟩
  | 59 => ⟨S16x256x2816, .f32⟩
  | 60 => ⟨S16x256x2816, .f32⟩
  | 61 => ⟨S16x256x2816, .f32⟩
  | 62 => ⟨S16x256x1024, .f32⟩
  | 63 => ⟨S16x256x1024, .f32⟩
  | 64 => ⟨S16x256x1024, .f32⟩
  | 65 => ⟨S16x256x1024, .f32⟩
  | 66 => ⟨S16x256x1024, .f32⟩
  | 67 => ⟨S_, .f32⟩
  | 68 => ⟨S16x256, .f32⟩
  | 69 => ⟨S16x256x1, .f32⟩
  | 70 => ⟨S_, .f32⟩
  | 71 => ⟨S16x256x1, .f32⟩
  | 72 => ⟨S16x256x1, .f32⟩
  | 73 => ⟨S_, .f32⟩
  | 74 => ⟨S16x256x1, .f32⟩
  | 75 => ⟨S16x256x1, .f32⟩
  | 76 => ⟨S16x256x1, .f32⟩
  | 77 => ⟨S16x256x1024, .f32⟩
  | 78 => ⟨S16x256x1024, .f32⟩
  | 79 => ⟨S1x1x1024, .f32⟩
  | 80 => ⟨S16x256x1024, .f32⟩
  | 81 => ⟨S16x256x1024, .f32⟩
  | 82 => ⟨S2x9x1024, .f32⟩
  | 83 => ⟨S2x1x1024, .f32⟩
  | 84 => ⟨S2x1024, .f32⟩
  | 85 => ⟨S2x1x1024, .f32⟩
  | 86 => ⟨S2x1x1024, .f32⟩
  | 87 => ⟨S2x1024, .f32⟩
  | 88 => ⟨S2x1x1024, .f32⟩
  | 89 => ⟨S2x1x1024, .f32⟩
  | 90 => ⟨S2x1024, .f32⟩
  | 91 => ⟨S2x1x1024, .f32⟩
  | 92 => ⟨S1x1x1024, .f32⟩
  | 93 => ⟨S1024, .f32⟩
  | 94 => ⟨S2x2048x1024, .f32⟩
  | 95 => ⟨S_, .f32⟩
  | 96 => ⟨S2x2048, .f32⟩
  | 97 => ⟨S2x2048x1, .f32⟩
  | 98 => ⟨S_, .f32⟩
  | 99 => ⟨S2x2048x1, .f32⟩
  | 100 => ⟨S2x2048x1, .f32⟩
  | 101 => ⟨S_, .f32⟩
  | 102 => ⟨S2x2048x1, .f32⟩
  | 103 => ⟨S2x2048x1, .f32⟩
  | 104 => ⟨S2x2048x1, .f32⟩
  | 105 => ⟨S2x2048x1024, .f32⟩
  | 106 => ⟨S2x2048x1024, .f32⟩
  | 107 => ⟨S1x1x1024, .f32⟩
  | 108 => ⟨S2x2048x1024, .f32⟩
  | 109 => ⟨S2x2048x1024, .f32⟩
  | 110 => ⟨S_, .f32⟩
  | 111 => ⟨S2x1x1024, .f32⟩
  | 112 => ⟨S2x1x1024, .f32⟩
  | 113 => ⟨S2x2048x1024, .f32⟩
  | 114 => ⟨S2x2048x1024, .f32⟩
  | 115 => ⟨S2x2048x1024, .f32⟩
  | 116 => ⟨S2x2048x1024, .f32⟩
  | 117 => ⟨S_, .f32⟩
  | 118 => ⟨S2x1x1024, .f32⟩
  | 119 => ⟨S2x1x1024, .f32⟩
  | 120 => ⟨S1x1x1024x5632, .f32⟩
  | 121 => ⟨S1024x5632, .f32⟩
  | 122 => ⟨S1x1x2816x1024, .f32⟩
  | 123 => ⟨S2816x1024, .f32⟩
  | 124 => ⟨S2x2048x5632, .f32⟩
  | 125 => ⟨S2x2048x2816, .f32⟩
  | 126 => ⟨S2x2048x2816, .f32⟩
  | 127 => ⟨S2x2048x2816, .f32⟩
  | _ => ⟨S16x256x1024, .f32⟩

abbrev hbmTy0_1 (i : Nat) : BufTy := match i % 128 with
  | 0 => ⟨S2x2048x2816, .f32⟩
  | 1 => ⟨S_, .f32⟩
  | 2 => ⟨S2x2048x2816, .f32⟩
  | 3 => ⟨S2x2048x2816, .f32⟩
  | 4 => ⟨S_, .f32⟩
  | 5 => ⟨S2x2048x2816, .f32⟩
  | 6 => ⟨S2x2048x2816, .f32⟩
  | 7 => ⟨S2x2048x2816, .f32⟩
  | 8 => ⟨S2x2048x2816, .f32⟩
  | 9 => ⟨S2x2048x1024, .f32⟩
  | 10 => ⟨S2x2048x1024, .f32⟩
  | 11 => ⟨S2x2048x1024, .f32⟩
  | 12 => ⟨S2x2048x1024, .f32⟩
  | 13 => ⟨S2x2048x1024, .f32⟩
  | 14 => ⟨S_, .f32⟩
  | 15 => ⟨S2x2048, .f32⟩
  | 16 => ⟨S2x2048x1, .f32⟩
  | 17 => ⟨S_, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1, .f32⟩
  | 24 => ⟨S2x2048x1024, .f32⟩
  | 25 => ⟨S2x2048x1024, .f32⟩
  | 26 => ⟨S1x1x1024, .f32⟩
  | 27 => ⟨S2x2048x1024, .f32⟩
  | 28 => ⟨S2x2048x1024, .f32⟩
  | 29 => ⟨S4096x1024, .f32⟩
  | 30 => ⟨S4096x1024, .f32⟩
  | 31 => ⟨S8192x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_7 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_11 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_call1_v0 : Ref sig .tc := ⟨.hbm, 127, rfl⟩
abbrev main_call1_v1 : Ref sig .tc := ⟨.hbm, 128, rfl⟩
abbrev main_call1_cst : Ref sig .tc := ⟨.hbm, 129, rfl⟩
abbrev main_call1_v2 : Ref sig .tc := ⟨.hbm, 130, rfl⟩
abbrev main_call1_v3 : Ref sig .tc := ⟨.hbm, 131, rfl⟩
abbrev main_call1_cst_0 : Ref sig .tc := ⟨.hbm, 132, rfl⟩
abbrev main_call1_v4 : Ref sig .tc := ⟨.hbm, 133, rfl⟩
abbrev main_call1_v5 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_12 : Ref sig .tc := ⟨.hbm, 142, rfl⟩
abbrev main_v106 : Ref sig .tc := ⟨.hbm, 143, rfl⟩
abbrev main_v107 : Ref sig .tc := ⟨.hbm, 144, rfl⟩
abbrev main_cst_13 : Ref sig .tc := ⟨.hbm, 145, rfl⟩
abbrev main_v108 : Ref sig .tc := ⟨.hbm, 146, rfl⟩
abbrev main_v109 : Ref sig .tc := ⟨.hbm, 147, rfl⟩
abbrev main_cst_14 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩

abbrev nD : Nat := 1
abbrev τ : Topo := Topo.v7x

variable {F : FTy → Type} [FloatOps F]
-- ==== Kernel3.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S3x1024 : Shape := ⟨2, ![3, 1024]⟩
abbrev S1024x4512 : Shape := ⟨2, ![1024, 4512]⟩
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S1024x1024 : Shape := ⟨2, ![1024, 1024]⟩
abbrev S4096x1024 : Shape := ⟨2, ![4096, 1024]⟩
abbrev S8192x1024 : Shape := ⟨2, ![8192, 1024]⟩
abbrev S1024x3072 : Shape := ⟨2, ![1024, 3072]⟩
abbrev S1x1024 : Shape := ⟨2, ![1, 1024]⟩
abbrev S512x256 : Shape := ⟨2, ![512, 256]⟩
abbrev S512x512 : Shape := ⟨2, ![512, 512]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩

abbrev nBuf : Space → Nat
  | .hbm => 23
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S2x2048x1024, .f32⟩
  | .hbm, ⟨2, _⟩ => ⟨S3x9x1024, .f32⟩
  | .hbm, ⟨3, _⟩ => ⟨S3x1024, .f32⟩
  | .hbm, ⟨4, _⟩ => ⟨S1024x4512, .f32⟩
  | .hbm, ⟨5, _⟩ => ⟨S8192x256, .bf16⟩
  | .hbm, ⟨6, _⟩ => ⟨S8192x512, .bf16⟩
  | .hbm, ⟨7, _⟩ => ⟨S8192x256, .bf16⟩
  | .hbm, ⟨8, _⟩ => ⟨S256x1024, .f32⟩
  | .hbm, ⟨9, _⟩ => ⟨S512x1024, .f32⟩
  | .hbm, ⟨10, _⟩ => ⟨S256x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S8192x1024, .f32⟩
  | .hbm, ⟨15, _⟩ => ⟨S1024x3072, .f32⟩
  | .hbm, ⟨16, _⟩ => ⟨S1024x3072, .bf16⟩
  | .hbm, ⟨17, _⟩ => ⟨S1x1024, .f32⟩
  | .hbm, ⟨18, _⟩ => ⟨S256x1024, .bf16⟩
  | .hbm, ⟨19, _⟩ => ⟨S512x1024, .bf16⟩
  | .hbm, ⟨20, _⟩ => ⟨S256x1024, .bf16⟩
  | .hbm, ⟨21, _⟩ => ⟨S1024x1024, .bf16⟩
  | .hbm, ⟨22, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S3x9x1024, .f32⟩
  | .local _ .vmem, ⟨3, _⟩ => ⟨S1x1024, .f32⟩
  | .local _ .vmem, ⟨4, _⟩ => ⟨S1024x3072, .bf16⟩
  | .local _ .vmem, ⟨5, _⟩ => ⟨S512x256, .bf16⟩
  | .local _ .vmem, ⟨6, _⟩ => ⟨S512x256, .bf16⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x256, .bf16⟩
  | .local _ .vmem, ⟨11, _⟩ => ⟨S256x1024, .bf16⟩
  | .local _ .vmem, ⟨12, _⟩ => ⟨S512x1024, .bf16⟩
  | .local _ .vmem, ⟨13, _⟩ => ⟨S256x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c0_i32_6 : BitVec 32 := 0#32
  let c1_i32_5 : BitVec 32 := 1#32
  let c4096_i32_0 : BitVec 32 := 4096#32
  let v2 : BitVec 32 := Scalar.subi v0 c4096_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let v3 : BitVec 32 := Scalar.divsi v2 c2048_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v22 : Index := Scalar.indexCast v21
  let c0 : Index := 0#32
  let c0_7 : Index := 0#32
  ![v22.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S3x1024 : Shape := ⟨2, ![3, 1024]⟩
abbrev S1024x4512 : Shape := ⟨2, ![1024, 4512]⟩
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S1024x1024 : Shape := ⟨2, ![1024, 1024]⟩
abbrev S4096x256 : Shape := ⟨2, ![4096, 256]⟩
abbrev S16x256x256 : Shape := ⟨3, ![16, 256, 256]⟩
abbrev S2x2048x256 : Shape := ⟨3, ![2, 2048, 256]⟩
abbrev S4096x512 : Shape := ⟨2, ![4096, 512]⟩
abbrev S16x256x512 : Shape := ⟨3, ![16, 256, 512]⟩
abbrev S2x2048x512 : Shape := ⟨3, ![2, 2048, 512]⟩
abbrev S1x9x1024 : Shape := ⟨3, ![1, 9, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x4512 : Shape := ⟨3, ![16, 256, 4512]⟩
abbrev S16x256x3072 : Shape := ⟨3, ![16, 256, 3072]⟩
abbrev S2x9x1024 : Shape := ⟨3, ![2, 9, 1024]⟩
abbrev S2x1x1024 : Shape := ⟨3, ![2, 1, 1024]⟩
abbrev S2x1024 : Shape := ⟨2, ![2, 1024]⟩
abbrev S2x2048 : Shape := ⟨2, ![2, 2048]⟩
abbrev S2x2048x1 : Shape := ⟨3, ![2, 2048, 1]⟩
abbrev S2x2048x4512 : Shape := ⟨3, ![2, 2048, 4512]⟩
abbrev S2x2048x3072 : Shape := ⟨3, ![2, 2048, 3072]⟩
abbrev S4096x1024 : Shape := ⟨2, ![4096, 1024]⟩
abbrev S8192x1024 : Shape := ⟨2, ![8192, 1024]⟩

abbrev nBuf : Space → Nat
  | .hbm => 150
  | .vmem => 0
  | .smem => 0
  | _ => 0

abbrev hbmTy0_0 (i : Nat) : BufTy := match i % 128 with
  | 0 => ⟨S16x256x1024, .f32⟩
  | 1 => ⟨S2x2048x1024, .f32⟩
  | 2 => ⟨S3x9x1024, .f32⟩
  | 3 => ⟨S3x1024, .f32⟩
  | 4 => ⟨S1024x4512, .f32⟩
  | 5 => ⟨S8192x256, .bf16⟩
  | 6 => ⟨S8192x512, .bf16⟩
  | 7 => ⟨S8192x256, .bf16⟩
  | 8 => ⟨S256x1024, .f32⟩
  | 9 => ⟨S512x1024, .f32⟩
  | 10 => ⟨S256x1024, .f32⟩
  | 11 => ⟨S1024x1024, .f32⟩
  | 12 => ⟨S8192x256, .f32⟩
  | 13 => ⟨S8192x512, .f32⟩
  | 14 => ⟨S8192x256, .f32⟩
  | 15 => ⟨S4096x256, .f32⟩
  | 16 => ⟨S16x256x256, .f32⟩
  | 17 => ⟨S4096x256, .f32⟩
  | 18 => ⟨S2x2048x256, .f32⟩
  | 19 => ⟨S4096x512, .f32⟩
  | 20 => ⟨S16x256x512, .f32⟩
  | 21 => ⟨S4096x512, .f32⟩
  | 22 => ⟨S2x2048x512, .f32⟩
  | 23 => ⟨S4096x256, .f32⟩
  | 24 => ⟨S16x256x256, .f32⟩
  | 25 => ⟨S4096x256, .f32⟩
  | 26 => ⟨S2x2048x256, .f32⟩
  | 27 => ⟨S1x9x1024, .f32⟩
  | 28 => ⟨S1x1x1024, .f32⟩
  | 29 => ⟨S1x1024, .f32⟩
  | 30 => ⟨S1x1x1024, .f32⟩
  | 31 => ⟨S1x1x1024, .f32⟩
  | 32 => ⟨S1x1024, .f32⟩
  | 33 => ⟨S1x1x1024, .f32⟩
  | 34 => ⟨S1x1x1024, .f32⟩
  | 35 => ⟨S1x1024, .f32⟩
  | 36 => ⟨S1x1x1024, .f32⟩
  | 37 => ⟨S1x1024, .f32⟩
  | 38 => ⟨S1024, .f32⟩
  | 39 => ⟨S16x256x1024, .f32⟩
  | 40 => ⟨S_, .f32⟩
  | 41 => ⟨S16x256, .f32⟩
  | 42 => ⟨S16x256x1, .f32⟩
  | 43 => ⟨S_, .f32⟩
  | 44 => ⟨S16x256x1, .f32⟩
  | 45 => ⟨S16x256x1, .f32⟩
  | 46 => ⟨S_, .f32⟩
  | 47 => ⟨S16x256x1, .f32⟩
  | 48 => ⟨S16x256x1, .f32⟩
  | 49 => ⟨S16x256x1, .f32⟩
  | 50 => ⟨S16x256x1024, .f32⟩
  | 51 => ⟨S16x256x1024, .f32⟩
  | 52 => ⟨S1x1x1024, .f32⟩
  | 53 => ⟨S16x256x1024, .f32⟩
  | 54 => ⟨S16x256x1024, .f32⟩
  | 55 => ⟨S_, .f32⟩
  | 56 => ⟨S1x1x1024, .f32⟩
  | 57 => ⟨S1x1x1024, .f32⟩
  | 58 => ⟨S16x256x1024, .f32⟩
  | 59 => ⟨S16x256x1024, .f32⟩
  | 60 => ⟨S16x256x1024, .f32⟩
  | 61 => ⟨S16x256x1024, .f32⟩
  | 62 => ⟨S16x256x4512, .f32⟩
  | 63 => ⟨S16x256x3072, .f32⟩
  | 64 => ⟨S16x256x1024, .f32⟩
  | 65 => ⟨S16x256x1024, .f32⟩
  | 66 => ⟨S16x256x1024, .f32⟩
  | 67 => ⟨S16x256x3072, .f32⟩
  | 68 => ⟨S16x256x3072, .f32⟩
  | 69 => ⟨S_, .f32⟩
  | 70 => ⟨S16x256x3072, .f32⟩
  | 71 => ⟨S16x256x3072, .f32⟩
  | 72 => ⟨S_, .f32⟩
  | 73 => ⟨S16x256x3072, .f32⟩
  | 74 => ⟨S16x256x3072, .f32⟩
  | 75 => ⟨S16x256x1024, .f32⟩
  | 76 => ⟨S16x256x1024, .f32⟩
  | 77 => ⟨S16x256x1024, .f32⟩
  | 78 => ⟨S16x256x1024, .f32⟩
  | 79 => ⟨S16x256x1024, .f32⟩
  | 80 => ⟨S16x256x1024, .f32⟩
  | 81 => ⟨S16x256x1024, .f32⟩
  | 82 => ⟨S16x256x1024, .f32⟩
  | 83 => ⟨S16x256x1024, .f32⟩
  | 84 => ⟨S16x256x1024, .f32⟩
  | 85 => ⟨S16x256x1024, .f32⟩
  | 86 => ⟨S16x256x1024, .f32⟩
  | 87 => ⟨S2x9x1024, .f32⟩
  | 88 => ⟨S2x1x1024, .f32⟩
  | 89 => ⟨S2x1024, .f32⟩
  | 90 => ⟨S2x1x1024, .f32⟩
  | 91 => ⟨S2x1x1024, .f32⟩
  | 92 => ⟨S2x1024, .f32⟩
  | 93 => ⟨S2x1x1024, .f32⟩
  | 94 => ⟨S2x1x1024, .f32⟩
  | 95 => ⟨S2x1024, .f32⟩
  | 96 => ⟨S2x1x1024, .f32⟩
  | 97 => ⟨S1x1024, .f32⟩
  | 98 => ⟨S1024, .f32⟩
  | 99 => ⟨S2x2048x1024, .f32⟩
  | 100 => ⟨S_, .f32⟩
  | 101 => ⟨S2x2048, .f32⟩
  | 102 => ⟨S2x2048x1, .f32⟩
  | 103 => ⟨S_, .f32⟩
  | 104 => ⟨S2x2048x1, .f32⟩
  | 105 => ⟨S2x2048x1, .f32⟩
  | 106 => ⟨S_, .f32⟩
  | 107 => ⟨S2x2048x1, .f32⟩
  | 108 => ⟨S2x2048x1, .f32⟩
  | 109 => ⟨S2x2048x1, .f32⟩
  | 110 => ⟨S2x2048x1024, .f32⟩
  | 111 => ⟨S2x2048x1024, .f32⟩
  | 112 => ⟨S1x1x1024, .f32⟩
  | 113 => ⟨S2x2048x1024, .f32⟩
  | 114 => ⟨S2x2048x1024, .f32⟩
  | 115 => ⟨S_, .f32⟩
  | 116 => ⟨S2x1x1024, .f32⟩
  | 117 => ⟨S2x1x1024, .f32⟩
  | 118 => ⟨S2x2048x1024, .f32⟩
  | 119 => ⟨S2x2048x1024, .f32⟩
  | 120 => ⟨S2x2048x1024, .f32⟩
  | 121 => ⟨S2x2048x1024, .f32⟩
  | 122 => ⟨S2x2048x4512, .f32⟩
  | 123 => ⟨S2x2048x3072, .f32⟩
  | 124 => ⟨S2x2048x1024, .f32⟩
  | 125 => ⟨S2x2048x1024, .f32⟩
  | 126 => ⟨S2x2048x1024, .f32⟩
  | 127 => ⟨S2x2048x3072, .f32⟩
  | _ => ⟨S16x256x1024, .f32⟩

abbrev hbmTy0_1 (i : Nat) : BufTy := match i % 128 with
  | 0 => ⟨S2x2048x3072, .f32⟩
  | 1 => ⟨S_, .f32⟩
  | 2 => ⟨S2x2048x3072, .f32⟩
  | 3 => ⟨S2x2048x3072, .f32⟩
  | 4 => ⟨S_, .f32⟩
  | 5 => ⟨S2x2048x3072, .f32⟩
  | 6 => ⟨S2x2048x3072, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S4096x1024, .f32⟩
  | 20 => ⟨S4096x1024, .f32⟩
  | 21 => ⟨S8192x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_3 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_5 : Ref sig .tc := ⟨.hbm, 100, rfl⟩
abbrev main_v82 : Ref sig .tc := ⟨.hbm, 101, rfl⟩
abbrev main_v83 : Ref sig .tc := ⟨.hbm, 102, rfl⟩
abbrev main_cst_6 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_8 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_9 : Ref sig .tc := ⟨.hbm, 129, rfl⟩
abbrev main_v107 : Ref sig .tc := ⟨.hbm, 130, rfl⟩
abbrev main_v108 : Ref sig .tc := ⟨.hbm, 131, rfl⟩
abbrev main_cst_10 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩

abbrev nD : Nat := 1
abbrev τ : Topo := Topo.v7x

variable {F : FTy → Type} [FloatOps F]
-- ==== Kernel4.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S4096x1024 : Shape := ⟨2, ![4096, 1024]⟩
abbrev S8192x1024 : Shape := ⟨2, ![8192, 1024]⟩
abbrev S1x3x1024 : Shape := ⟨3, ![1, 3, 1024]⟩
abbrev S3x1024 : Shape := ⟨2, ![3, 1024]⟩
abbrev S1x1024 : Shape := ⟨2, ![1, 1024]⟩
abbrev S1024x1024 : Shape := ⟨2, ![1024, 1024]⟩
abbrev S1x1x1024x256 : Shape := ⟨4, ![1, 1, 1024, 256]⟩
abbrev S1x1x256x1024 : Shape := ⟨4, ![1, 1, 256, 1024]⟩
abbrev S1x9x1024 : Shape := ⟨3, ![1, 9, 1024]⟩
abbrev S9x1024 : Shape := ⟨2, ![9, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16x256x1024, .f32⟩
  | .hbm, ⟨1, _⟩ => ⟨S2x2048x1024, .f32⟩
  | .hbm, ⟨2, _⟩ => ⟨S3x9x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S4096x1024, .f32⟩
  | .hbm, ⟨7, _⟩ => ⟨S4096x1024, .f32⟩
  | .hbm, ⟨8, _⟩ => ⟨S8192x1024, .f32⟩
  | .hbm, ⟨9, _⟩ => ⟨S1x3x1024, .f32⟩
  | .hbm, ⟨10, _⟩ => ⟨S3x1024, .f32⟩
  | .hbm, ⟨11, _⟩ => ⟨S1x1024, .f32⟩
  | .hbm, ⟨12, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S3x9x1024, .f32⟩
  | .local _ .vmem, ⟨3, _⟩ => ⟨S1x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_off1 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let c0_i32_6 : BitVec 32 := 0#32
  let c1_i32_5 : BitVec 32 := 1#32
  let c4096_i32_0 : BitVec 32 := 4096#32
  let v2 : BitVec 32 := Scalar.subi v0 c4096_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let v3 : BitVec 32 := Scalar.divsi v2 c2048_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v22 : Index := Scalar.indexCast v21
  let c0 : Index := 0#32
  let c0_7 : Index := 0#32
  ![v22.toNat, 0, 0]
def k0_cond2 (i : grid0.Coords) : BitVec 1 :=
  let arg1 : BitVec 32 := BitVec.ofNat 32 (i 1).val
  let c10_i32 : BitVec 32 := 10#32
  let v56 : BitVec 1 := Scalar.cmpi .eq arg1 c10_i32
  let v57 : BitVec 32 := Scalar.extui v56
  let c0_i32_33 : BitVec 32 := 0#32
  let v58 : BitVec 1 := Scalar.cmpi .ne v57 c0_i32_33
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x9x1024 : Shape := ⟨3, ![1, 9, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16x256x5632 : Shape := ⟨3, ![16, 256, 5632]⟩
abbrev S16x256x2816 : Shape := ⟨3, ![16, 256, 2816]⟩
abbrev S2x9x1024 : Shape := ⟨3, ![2, 9, 1024]⟩
abbrev S2x1x1024 : Shape := ⟨3, ![2, 1, 1024]⟩
abbrev S2x1024 : Shape := ⟨2, ![2, 1024]⟩
abbrev S2x2048 : Shape := ⟨2, ![2, 2048]⟩
abbrev S2x2048x1 : Shape := ⟨3, ![2, 2048, 1]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S8192x1024 : Shape := ⟨2, ![8192, 1024]⟩

abbrev nBuf : Space → Nat
  | .hbm => 127
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x2048x1024, .f32⟩
  | .hbm, ⟨2, _⟩ => ⟨S3x9x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S1x9x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1x1024, .f32⟩
  | .hbm, ⟨14, _⟩ => ⟨S1x1024, .f32⟩
  | .hbm, ⟨15, _⟩ => ⟨S1x1x1024, .f32⟩
  | .hbm, ⟨16, _⟩ => ⟨S1x1x1024, .f32⟩
  | .hbm, ⟨17, _⟩ => ⟨S1024, .f32⟩
  | .hbm, ⟨18, _⟩ => ⟨S16x256x1024, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S_, .f32⟩
  | .hbm, ⟨42, _⟩ => ⟨S1x1x1024, .f32⟩
  | .hbm, ⟨43, _⟩ => ⟨S1x1x1024, .f32⟩
  | .hbm, ⟨44, _⟩ => ⟨S1x1x1024x5632, .f32⟩
  | .hbm, ⟨45, _⟩ => ⟨S1024x5632, .f32⟩
  | .hbm, ⟨46, _⟩ => ⟨S1x1x2816x1024, .f32⟩
  | .hbm, ⟨47, _⟩ => ⟨S2816x1024, .f32⟩
  | .hbm, ⟨48, _⟩ => ⟨S16x256x5632, .f32⟩
  | .hbm, ⟨49, _⟩ => ⟨S16x256x2816, .f32⟩
  | .hbm, ⟨50, _⟩ => ⟨S16x256x2816, .f32⟩
  | .hbm, ⟨51, _⟩ => ⟨S16x256x2816, .f32⟩
  | .hbm, ⟨52, _⟩ => ⟨S16x256x2816, .f32⟩
  | .hbm, ⟨53, _⟩ => ⟨S_, .f32⟩
  | .hbm, ⟨54, _⟩ => ⟨S16x256x2816, .f32⟩
  | .hbm, ⟨55, _⟩ => ⟨S16x256x2816, .f32⟩
  | .hbm, ⟨56, _⟩ => ⟨S_, .f32⟩
  | .hbm, ⟨57, _⟩ => ⟨S16x256x2816, .f32⟩
  | .hbm, ⟨58, _⟩ => ⟨S16x256x2816, .f32⟩
  | .hbm, ⟨59, _⟩ => ⟨S16x256x2816, .f32⟩
  | .hbm, ⟨60, _⟩ => ⟨S16x256x2816, .f32⟩
  | .hbm, ⟨61, _⟩ => ⟨S16x256x1024, .f32⟩
  | .hbm, ⟨62, _⟩ => ⟨S16x256x1024, .f32⟩
  | .hbm, ⟨63, _⟩ => ⟨S16x256x1024, .f32⟩
  | .hbm, ⟨64, _⟩ => ⟨S16x256x1024, .f32⟩
  | .hbm, ⟨65, _⟩ => ⟨S2x9x1024, .f32⟩
  | .hbm, ⟨66, _⟩ => ⟨S2x1x1024, .f32⟩
  | .hbm, ⟨67, _⟩ => ⟨S2x1024, .f32⟩
  | .hbm, ⟨68, _⟩ => ⟨S2x1x1024, .f32⟩
  | .hbm, ⟨69, _⟩ => ⟨S2x1x1024, .f32⟩
  | .hbm, ⟨70, _⟩ => ⟨S2x1024, .f32⟩
  | .hbm, ⟨71, _⟩ => ⟨S2x1x1024, .f32⟩
  | .hbm, ⟨72, _⟩ => ⟨S2x1x1024, .f32⟩
  | .hbm, ⟨73, _⟩ => ⟨S2x1024, .f32⟩
  | .hbm, ⟨74, _⟩ => ⟨S2x1x1024, .f32⟩
  | .hbm, ⟨75, _⟩ => ⟨S1x1x1024, .f32⟩
  | .hbm, ⟨76, _⟩ => ⟨S1024, .f32⟩
  | .hbm, ⟨77, _⟩ => ⟨S2x2048x1024, .f32⟩
  | .hbm, ⟨78, _⟩ => ⟨S_, .f32⟩
  | .hbm, ⟨79, _⟩ => ⟨S2x2048, .f32⟩
  | .hbm, ⟨80, _⟩ => ⟨S2x2048x1, .f32⟩
  | .hbm, ⟨81, _⟩ => ⟨S_, .f32⟩
  | .hbm, ⟨82, _⟩ => ⟨S2x2048x1, .f32⟩
  | .hbm, ⟨83, _⟩ => ⟨S2x2048x1, .f32⟩
  | .hbm, ⟨84, _⟩ => ⟨S_, .f32⟩
  | .hbm, ⟨85, _⟩ => ⟨S2x2048x1, .f32⟩
  | .hbm, ⟨86, _⟩ => ⟨S2x2048x1, .f32⟩
  | .hbm, ⟨87, _⟩ => ⟨S2x2048x1, .f32⟩
  | .hbm, ⟨88, _⟩ => ⟨S2x2048x1024, .f32⟩
  | .hbm, ⟨89, _⟩ => ⟨S2x2048x1024, .f32⟩
  | .hbm, ⟨90, _⟩ => ⟨S1x1x1024, .f32⟩
  | .hbm, ⟨91, _⟩ => ⟨S2x2048x1024, .f32⟩
  | .hbm, ⟨92, _⟩ => ⟨S2x2048x1024, .f32⟩
  | .hbm, ⟨93, _⟩ => ⟨S_, .f32⟩
  | .hbm, ⟨94, _⟩ => ⟨S2x1x1024, .f32⟩
  | .hbm, ⟨95, _⟩ => ⟨S2x1x1024, .f32⟩
  | .hbm, ⟨96, _⟩ => ⟨S2x2048x1024, .f32⟩
  | .hbm, ⟨97, _⟩ => ⟨S2x2048x1024, .f32⟩
  | .hbm, ⟨98, _⟩ => ⟨S2x2048x1024, .f32⟩
  | .hbm, ⟨99, _⟩ => ⟨S2x2048x1024, .f32⟩
  | .hbm, ⟨100, _⟩ => ⟨S_, .f32⟩
  | .hbm, ⟨101, _⟩ => ⟨S2x1x1024, .f32⟩
  | .hbm, ⟨102, _⟩ => ⟨S2x1x1024, .f32⟩
  | .hbm, ⟨103, _⟩ => ⟨S1x1x1024x5632, .f32⟩
  | .hbm, ⟨104, _⟩ => ⟨S1024x5632, .f32⟩
  | .hbm, ⟨105, _⟩ => ⟨S1x1x2816x1024, .f32⟩
  | .hbm, ⟨106, _⟩ => ⟨S2816x1024, .f32⟩
  | .hbm, ⟨107, _⟩ => ⟨S2x2048x5632, .f32⟩
  | .hbm, ⟨108, _⟩ => ⟨S2x2048x2816, .f32⟩
  | .hbm, ⟨109, _⟩ => ⟨S2x2048x2816, .f32⟩
  | .hbm, ⟨110, _⟩ => ⟨S2x2048x2816, .f32⟩
  | .hbm, ⟨111, _⟩ => ⟨S2x2048x2816, .f32⟩
  | .hbm, ⟨112, _⟩ => ⟨S_, .f32⟩
  | .hbm, ⟨113, _⟩ => ⟨S2x2048x2816, .f32⟩
  | .hbm, ⟨114, _⟩ => ⟨S2x2048x2816, .f32⟩
  | .hbm, ⟨115, _⟩ => ⟨S_, .f32⟩
  | .hbm, ⟨116, _⟩ => ⟨S2x2048x2816, .f32⟩
  | .hbm, ⟨117, _⟩ => ⟨S2x2048x2816, .f32⟩
  | .hbm, ⟨118, _⟩ => ⟨S2x2048x2816, .f32⟩
  | .hbm, ⟨119, _⟩ => ⟨S2x2048x2816, .f32⟩
  | .hbm, ⟨120, _⟩ => ⟨S2x2048x1024, .f32⟩
  | .hbm, ⟨121, _⟩ => ⟨S2x2048x1024, .f32⟩
  | .hbm, ⟨122, _⟩ => ⟨S2x2048x1024, .f32⟩
  | .hbm, ⟨123, _⟩ => ⟨S2x2048x1024, .f32⟩
  | .hbm, ⟨124, _⟩ => ⟨S4096x1024, .f32⟩
  | .hbm, ⟨125, _⟩ => ⟨S4096x1024, .f32⟩
  | .hbm, ⟨126, _⟩ => ⟨S8192x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_4 : Ref sig .tc := ⟨.hbm, 78, rfl⟩
abbrev main_v59 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_8 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== Kernel5.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S3x1024 : Shape := ⟨2, ![3, 1024]⟩
abbrev S1024x4512 : Shape := ⟨2, ![1024, 4512]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S32x1024 : Shape := ⟨2, ![32, 1024]⟩
abbrev S256x512 : Shape := ⟨2, ![256, 512]⟩
abbrev S2560x1024 : Shape := ⟨2, ![2560, 1024]⟩
abbrev S2560x32 : Shape := ⟨2, ![2560, 32]⟩
abbrev S32 : Shape := ⟨1, ![32]⟩
abbrev S4096x1024 : Shape := ⟨2, ![4096, 1024]⟩
abbrev S8192x1024 : Shape := ⟨2, ![8192, 1024]⟩
abbrev S1024x32 : Shape := ⟨2, ![1024, 32]⟩
abbrev S_ : Shape := ⟨0, ![]⟩
abbrev S32x1 : Shape := ⟨2, ![32, 1]⟩
abbrev S1x32 : Shape := ⟨2, ![1, 32]⟩
abbrev S1024x1152 : Shape := ⟨2, ![1024, 1152]⟩
abbrev S1024x256 : Shape := ⟨2, ![1024, 256]⟩
abbrev S1024x128 : Shape := ⟨2, ![1024, 128]⟩
abbrev S1024x1664 : Shape := ⟨2, ![1024, 1664]⟩
abbrev S1024x3072 : Shape := ⟨2, ![1024, 3072]⟩
abbrev S256x8x96 : Shape := ⟨3, ![256, 8, 96]⟩
abbrev S256x8x128 : Shape := ⟨3, ![256, 8, 128]⟩
abbrev S256x1024 : Shape := ⟨2, ![256, 1024]⟩
abbrev S256x8x32 : Shape := ⟨3, ![256, 8, 32]⟩
abbrev S1x1x32 : Shape := ⟨3, ![1, 1, 32]⟩
abbrev S128x8x128 : Shape := ⟨3, ![128, 8, 128]⟩
abbrev S128x8x64 : Shape := ⟨3, ![128, 8, 64]⟩
abbrev S128x512 : Shape := ⟨2, ![128, 512]⟩
abbrev S1x1024 : Shape := ⟨2, ![1, 1024]⟩
abbrev S1x256 : Shape := ⟨2, ![1, 256]⟩
abbrev S1x128 : Shape := ⟨2, ![1, 128]⟩
abbrev S8192x768 : Shape := ⟨2, ![8192, 768]⟩
abbrev S8192x512 : Shape := ⟨2, ![8192, 512]⟩
abbrev S8192x128 : Shape := ⟨2, ![8192, 128]⟩
abbrev S8192x32 : Shape := ⟨2, ![8192, 32]⟩
abbrev S512x1024 : Shape := ⟨2, ![512, 1024]⟩
abbrev S512x32 : Shape := ⟨2, ![512, 32]⟩
abbrev S512x768 : Shape := ⟨2, ![512, 768]⟩
abbrev S512x512 : Shape := ⟨2, ![512, 512]⟩
abbrev S512x128 : Shape := ⟨2, ![512, 128]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩
abbrev S512x1664 : Shape := ⟨2, ![512, 1664]⟩
abbrev S512x256 : Shape := ⟨2, ![512, 256]⟩

abbrev nBuf : Space → Nat
  | .hbm => 85
  | .vmem => 35
  | .smem => 0
  | _ => 0

abbrev bufTy : (tb : Table) → Fin (tcTables nBuf tb) → BufTy
  | .hbm, ⟨0, _⟩ => ⟨S16x256x1024, .f32⟩
  | .hbm, ⟨1, _⟩ => ⟨S2x2048x1024, .f32⟩
  | .hbm, ⟨2, _⟩ => ⟨S3x9x1024, .f32⟩
  | .hbm, ⟨3, _⟩ => ⟨S3x1024, .f32⟩
  | .hbm, ⟨4, _⟩ => ⟨S1024x4512, .f32⟩
  | .hbm, ⟨5, _⟩ => ⟨S256, .f32⟩
  | .hbm, ⟨6, _⟩ => ⟨S128, .f32⟩
  | .hbm, ⟨7, _⟩ => ⟨S256x768, .f32⟩
  | .hbm, ⟨8, _⟩ => ⟨S128x1024, .f32⟩
  | .hbm, ⟨9, _⟩ => ⟨S32x1024, .bf16⟩
  | .hbm, ⟨10, _⟩ => ⟨S256x512, .bf16⟩
  | .hbm, ⟨11, _⟩ => ⟨S2560x1024, .f32⟩
  | .hbm, ⟨12, _⟩ => ⟨S2560x1024, .f32⟩
  | .hbm, ⟨13, _⟩ => ⟨S2560x32, .f32⟩
  | .hbm, ⟨14, _⟩ => ⟨S2560x32, .f32⟩
  | .hbm, ⟨15, _⟩ => ⟨S32, .f32⟩
  | .hbm, ⟨16, _⟩ => ⟨S32, .i32⟩
  | .hbm, ⟨17, _⟩ => ⟨S32, .i1⟩
  | .hbm, ⟨18, _⟩ => ⟨S32, .i1⟩
  | .hbm, ⟨19, _⟩ => ⟨S4096x1024, .f32⟩
  | .hbm, ⟨20, _⟩ => ⟨S4096x1024, .f32⟩
  | .hbm, ⟨21, _⟩ => ⟨S8192x1024, .f32⟩
  | .hbm, ⟨22, _⟩ => ⟨S1024x32, .f32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S32x1, .i32⟩
  | .hbm, ⟨28, _⟩ => ⟨S1024x32, .f32⟩
  | .hbm, ⟨29, _⟩ => ⟨S1x32, .f32⟩
  | .hbm, ⟨30, _⟩ => ⟨S1024x32, .f32⟩
  | .hbm, ⟨31, _⟩ => ⟨S1024x32, .f32⟩
  | .hbm, ⟨32, _⟩ => ⟨S1024x1152, .f32⟩
  | .hbm, ⟨33, _⟩ => ⟨S1024x256, .f32⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S_, .i32⟩
  | .hbm, ⟨38, _⟩ => ⟨S_, .f32⟩
  | .hbm, ⟨39, _⟩ => ⟨S1024x128, .f32⟩
  | .hbm, ⟨40, _⟩ => ⟨S1024x1664, .f32⟩
  | .hbm, ⟨41, _⟩ => ⟨S1024x1664, .bf16⟩
  | .hbm, ⟨42, _⟩ => ⟨S1024x3072, .f32⟩
  | .hbm, ⟨43, _⟩ => ⟨S1024x3072, .bf16⟩
  | .hbm, ⟨44, _⟩ => ⟨S256x8x96, .f32⟩
  | .hbm, ⟨45, _⟩ => ⟨S_, .i32⟩
  | .hbm, ⟨46, _⟩ => ⟨S_, .f32⟩
  | .hbm, ⟨47, _⟩ => ⟨S256x8x128, .f32⟩
  | .hbm, ⟨48, _⟩ => ⟨S256x1024, .f32⟩
  | .hbm, ⟨49, _⟩ => ⟨S256x1024, .bf16⟩
  | .hbm, ⟨50, _⟩ => ⟨S256x8x32, .f32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S32, .i32⟩
  | .hbm, ⟨55, _⟩ => ⟨S32x1, .i32⟩
  | .hbm, ⟨56, _⟩ => ⟨S256x8x32, .f32⟩
  | .hbm, ⟨57, _⟩ => ⟨S1x1x32, .f32⟩
  | .hbm, ⟨58, _⟩ => ⟨S256x8x32, .f32⟩
  | .hbm, ⟨59, _⟩ => ⟨S256x8x32, .f32⟩
  | .hbm, ⟨60, _⟩ => ⟨S_, .i32⟩
  | .hbm, ⟨61, _⟩ => ⟨S_, .f32⟩
  | .hbm, ⟨62, _⟩ => ⟨S256x8x128, .f32⟩
  | .hbm, ⟨63, _⟩ => ⟨S256x1024, .f32⟩
  | .hbm, ⟨64, _⟩ => ⟨S256x1024, .bf16⟩
  | .hbm, ⟨65, _⟩ => ⟨S128x8x128, .f32⟩
  | .hbm, ⟨66, _⟩ => ⟨S128x8x64, .f32⟩
  | .hbm, ⟨67, _⟩ => ⟨S_, .i32⟩
  | .hbm, ⟨68, _⟩ => ⟨S_, .f32⟩
  | .hbm, ⟨69, _⟩ => ⟨S128x8x128, .f32⟩
  | .hbm, ⟨70, _⟩ => ⟨S128x1024, .f32⟩
  | .hbm, ⟨71, _⟩ => ⟨S128x1024, .bf16⟩
  | .hbm, ⟨72, _⟩ => ⟨S128x8x64, .f32⟩
  | .hbm, ⟨73, _⟩ => ⟨S128x512, .f32⟩
  | .hbm, ⟨74, _⟩ => ⟨S128x512, .bf16⟩
  | .hbm, ⟨75, _⟩ => ⟨S1x1024, .f32⟩
  | .hbm, ⟨76, _⟩ => ⟨S1x256, .f32⟩
  | .hbm, ⟨77, _⟩ => ⟨S1x128, .f32⟩
  | .hbm, ⟨78, _⟩ => ⟨S8192x768, .f32⟩
  | .hbm, ⟨79, _⟩ => ⟨S8192x1024, .bf16⟩
  | .hbm, ⟨80, _⟩ => ⟨S8192x1024, .bf16⟩
  | .hbm, ⟨81, _⟩ => ⟨S8192x512, .bf16⟩
  | .hbm, ⟨82, _⟩ => ⟨S8192x128, .f32⟩
  | .hbm, ⟨83, _⟩ => ⟨S8192x32, .f32⟩
  | .hbm, ⟨84, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S3x9x1024, .f32⟩
  | .local _ .vmem, ⟨3, _⟩ => ⟨S1x1024, .f32⟩
  | .local _ .vmem, ⟨4, _⟩ => ⟨S1024x1664, .bf16⟩
  | .local _ .vmem, ⟨5, _⟩ => ⟨S1x256, .f32⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | .local _ .vmem, ⟨9, _⟩ => ⟨S128x1024, .bf16⟩
  | .local _ .vmem, ⟨10, _⟩ => ⟨S128x512, .bf16⟩
  | .local _ .vmem, ⟨11, _⟩ => ⟨S32x1024, .bf16⟩
  | .local _ .vmem, ⟨12, _⟩ => ⟨S256x512, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x32, .f32⟩
  | .local _ .vmem, ⟨18, _⟩ => ⟨S512x32, .f32⟩
  | .local _ .vmem, ⟨19, _⟩ => ⟨S512x32, .f32⟩
  | .local _ .vmem, ⟨20, _⟩ => ⟨S512x32, .f32⟩
  | .local _ .vmem, ⟨21, _⟩ => ⟨S512x768, .f32⟩
  | .local _ .vmem, ⟨22, _⟩ => ⟨S512x768, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | .local _ .vmem, ⟨29, _⟩ => ⟨S512x128, .f32⟩
  | .local _ .vmem, ⟨30, _⟩ => ⟨S512x128, .f32⟩
  | .local _ .vmem, ⟨31, _⟩ => ⟨S512x32, .f32⟩
  | .local _ .vmem, ⟨32, _⟩ => ⟨S512x32, .f32⟩
  | .local _ .vmem, ⟨33, _⟩ => ⟨S512x512, .bf16⟩
  | .local _ .vmem, ⟨34, _⟩ => ⟨S512x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_call0_v0 : Ref sig .tc := ⟨.hbm, 35, rfl⟩
abbrev main_v14 : Ref sig .tc := ⟨.hbm, 36, rfl⟩
abbrev main_c_4 : Ref sig .tc := ⟨.hbm, 37, rfl⟩
abbrev main_call1_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_call2_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_call3_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_call4_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_v47_2 : Ref sig .tc := ⟨.hbm, 80, rfl⟩
abbrev main_v47_3 : Ref sig .tc := ⟨.hbm, 81, rfl⟩
abbrev main_v47_4 : Ref sig .tc := ⟨.hbm, 82, rfl⟩
abbrev main_v47_5 : Ref sig .tc := ⟨.hbm, 83, rfl⟩
abbrev main_v47_6 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c0_i32_6 : BitVec 32 := 0#32
  let c1_i32_5 : BitVec 32 := 1#32
  let c4096_i32_0 : BitVec 32 := 4096#32
  let v2 : BitVec 32 := Scalar.subi v0 c4096_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let v3 : BitVec 32 := Scalar.divsi v2 c2048_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v22 : Index := Scalar.indexCast v21
  let c0 : Index := 0#32
  let c0_7 : Index := 0#32
  ![v22.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v1 c4_i32 v29
  let c0_i32_11 : BitVec 32 := 0#32
  let c0_i32_12 : BitVec 32 := 0#32
  ![v30.toNat, c0_i32_11.toNat]

def cc0_transform_13 (i : grid0.Coords) : Fin 2 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v1 c4_i32 v29
  let c0_i32_11 : BitVec 32 := 0#32
  let c0_i32_12 : BitVec 32 := 0#32
  ![v30.toNat, c0_i32_11.toNat]

def cc0_transform_14 (i : grid0.Coords) : Fin 2 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v1 c4_i32 v29
  let c0_i32_11 : BitVec 32 := 0#32
  let c0_i32_12 : BitVec 32 := 0#32
  ![v30.toNat, c0_i32_11.toNat]

def cc0_transform_15 (i : grid0.Coords) : Fin 2 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v1 c4_i32 v29
  let c0_i32_11 : BitVec 32 := 0#32
  let c0_i32_12 : BitVec 32 := 0#32
  ![v30.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference5Ideal.lean ====
abbrev S16x256x1024 : Shape := ⟨3, ![16, 256, 1024]⟩
abbrev S2x2048x1024 : Shape := ⟨3, ![2, 2048, 1024]⟩
abbrev S3x9x1024 : Shape := ⟨3, ![3, 9, 1024]⟩
abbrev S3x1024 : Shape := ⟨2, ![3, 1024]⟩
abbrev S1024x4512 : Shape := ⟨2, ![1024, 4512]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S32x1024 : Shape := ⟨2, ![32, 1024]⟩
abbrev S256x512 : Shape := ⟨2, ![256, 512]⟩
abbrev S2560x1024 : Shape := ⟨2, ![2560, 1024]⟩
abbrev S2560x32 : Shape := ⟨2, ![2560, 32]⟩
abbrev S1x9x1024 : Shape := ⟨3, ![1, 9, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x4512 : Shape := ⟨3, ![16, 256, 4512]⟩
abbrev S16x256x768 : Shape := ⟨3, ![16, 256, 768]⟩
abbrev S16x256x256 : Shape := ⟨3, ![16, 256, 256]⟩
abbrev S16x256x128 : Shape := ⟨3, ![16, 256, 128]⟩
abbrev S16x256x32 : Shape := ⟨3, ![16, 256, 32]⟩
abbrev S16x256x3328 : Shape := ⟨3, ![16, 256, 3328]⟩
abbrev S1x1x128 : Shape := ⟨3, ![1, 1, 128]⟩
abbrev S16x256x8x128 : Shape := ⟨4, ![16, 256, 8, 128]⟩
abbrev S16x256x8x64 : Shape := ⟨4, ![16, 256, 8, 64]⟩
abbrev S4096x768 : Shape := ⟨2, ![4096, 768]⟩
abbrev S4096x512 : Shape := ⟨2, ![4096, 512]⟩
abbrev S4096x128 : Shape := ⟨2, ![4096, 128]⟩
abbrev S4096x32 : Shape := ⟨2, ![4096, 32]⟩
abbrev S2x9x1024 : Shape := ⟨3, ![2, 9, 1024]⟩
abbrev S2x1x1024 : Shape := ⟨3, ![2, 1, 1024]⟩
abbrev S2x1024 : Shape := ⟨2, ![2, 1024]⟩
abbrev S2x2048 : Shape := ⟨2, ![2, 2048]⟩
abbrev S2x2048x1 : Shape := ⟨3, ![2, 2048, 1]⟩
abbrev S2x2048x4512 : Shape := ⟨3, ![2, 2048, 4512]⟩
abbrev S2x2048x768 : Shape := ⟨3, ![2, 2048, 768]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x3328 : Shape := ⟨3, ![2, 2048, 3328]⟩
abbrev S2x2048x8x128 : Shape := ⟨4, ![2, 2048, 8, 128]⟩
abbrev S2x2048x8x64 : Shape := ⟨4, ![2, 2048, 8, 64]⟩
abbrev S8192x768 : Shape := ⟨2, ![8192, 768]⟩
abbrev S8192x512 : Shape := ⟨2, ![8192, 512]⟩
abbrev S8192x128 : Shape := ⟨2, ![8192, 128]⟩
abbrev S8192x32 : Shape := ⟨2, ![8192, 32]⟩

abbrev nBuf : Space → Nat
  | .hbm => 144
  | .vmem => 0
  | .smem => 0
  | _ => 0

abbrev hbmTy0_0 (i : Nat) : BufTy := match i % 128 with
  | 0 => ⟨S16x256x1024, .f32⟩
  | 1 => ⟨S2x2048x1024, .f32⟩
  | 2 => ⟨S3x9x1024, .f32⟩
  | 3 => ⟨S3x1024, .f32⟩
  | 4 => ⟨S1024x4512, .f32⟩
  | 5 => ⟨S256, .f32⟩
  | 6 => ⟨S128, .f32⟩
  | 7 => ⟨S256x768, .f32⟩
  | 8 => ⟨S128x1024, .f32⟩
  | 9 => ⟨S32x1024, .bf16⟩
  | 10 => ⟨S256x512, .bf16⟩
  | 11 => ⟨S2560x1024, .f32⟩
  | 12 => ⟨S2560x1024, .f32⟩
  | 13 => ⟨S2560x32, .f32⟩
  | 14 => ⟨S2560x32, .f32⟩
  | 15 => ⟨S1x9x1024, .f32⟩
  | 16 => ⟨S1x1x1024, .f32⟩
  | 17 => ⟨S1x1024, .f32⟩
  | 18 => ⟨S1x1x1024, .f32⟩
  | 19 => ⟨S1x1x1024, .f32⟩
  | 20 => ⟨S1x1024, .f32⟩
  | 21 => ⟨S1x1x1024, .f32⟩
  | 22 => ⟨S1x1024, .f32⟩
  | 23 => ⟨S1024, .f32⟩
  | 24 => ⟨S16x256x1024, .f32⟩
  | 25 => ⟨S_, .f32⟩
  | 26 => ⟨S16x256, .f32⟩
  | 27 => ⟨S16x256x1, .f32⟩
  | 28 => ⟨S_, .f32⟩
  | 29 => ⟨S16x256x1, .f32⟩
  | 30 => ⟨S16x256x1, .f32⟩
  | 31 => ⟨S_, .f32⟩
  | 32 => ⟨S16x256x1, .f32⟩
  | 33 => ⟨S16x256x1, .f32⟩
  | 34 => ⟨S16x256x1, .f32⟩
  | 35 => ⟨S16x256x1024, .f32⟩
  | 36 => ⟨S16x256x1024, .f32⟩
  | 37 => ⟨S1x1x1024, .f32⟩
  | 38 => ⟨S16x256x1024, .f32⟩
  | 39 => ⟨S16x256x1024, .f32⟩
  | 40 => ⟨S_, .f32⟩
  | 41 => ⟨S1x1x1024, .f32⟩
  | 42 => ⟨S1x1x1024, .f32⟩
  | 43 => ⟨S16x256x1024, .f32⟩
  | 44 => ⟨S16x256x1024, .f32⟩
  | 45 => ⟨S16x256x1024, .f32⟩
  | 46 => ⟨S16x256x1024, .f32⟩
  | 47 => ⟨S16x256x4512, .f32⟩
  | 48 => ⟨S16x256x768, .f32⟩
  | 49 => ⟨S16x256x256, .f32⟩
  | 50 => ⟨S16x256x128, .f32⟩
  | 51 => ⟨S16x256x32, .f32⟩
  | 52 => ⟨S16x256x3328, .f32⟩
  | 53 => ⟨S16x256x128, .f32⟩
  | 54 => ⟨S_, .f32⟩
  | 55 => ⟨S16x256, .f32⟩
  | 56 => ⟨S16x256x1, .f32⟩
  | 57 => ⟨S_, .f32⟩
  | 58 => ⟨S16x256x1, .f32⟩
  | 59 => ⟨S16x256x1, .f32⟩
  | 60 => ⟨S_, .f32⟩
  | 61 => ⟨S16x256x1, .f32⟩
  | 62 => ⟨S16x256x1, .f32⟩
  | 63 => ⟨S16x256x1, .f32⟩
  | 64 => ⟨S16x256x128, .f32⟩
  | 65 => ⟨S16x256x128, .f32⟩
  | 66 => ⟨S1x1x128, .f32⟩
  | 67 => ⟨S16x256x128, .f32⟩
  | 68 => ⟨S16x256x128, .f32⟩
  | 69 => ⟨S16x256x1024, .f32⟩
  | 70 => ⟨S16x256x8x128, .f32⟩
  | 71 => ⟨S16x256x8x64, .f32⟩
  | 72 => ⟨S16x256x8x64, .f32⟩
  | 73 => ⟨S4096x768, .f32⟩
  | 74 => ⟨S4096x512, .f32⟩
  | 75 => ⟨S4096x128, .f32⟩
  | 76 => ⟨S4096x32, .f32⟩
  | 77 => ⟨S2x9x1024, .f32⟩
  | 78 => ⟨S2x1x1024, .f32⟩
  | 79 => ⟨S2x1024, .f32⟩
  | 80 => ⟨S2x1x1024, .f32⟩
  | 81 => ⟨S2x1x1024, .f32⟩
  | 82 => ⟨S2x1024, .f32⟩
  | 83 => ⟨S2x1x1024, .f32⟩
  | 84 => ⟨S1x1024, .f32⟩
  | 85 => ⟨S1024, .f32⟩
  | 86 => ⟨S2x2048x1024, .f32⟩
  | 87 => ⟨S_, .f32⟩
  | 88 => ⟨S2x2048, .f32⟩
  | 89 => ⟨S2x2048x1, .f32⟩
  | 90 => ⟨S_, .f32⟩
  | 91 => ⟨S2x2048x1, .f32⟩
  | 92 => ⟨S2x2048x1, .f32⟩
  | 93 => ⟨S_, .f32⟩
  | 94 => ⟨S2x2048x1, .f32⟩
  | 95 => ⟨S2x2048x1, .f32⟩
  | 96 => ⟨S2x2048x1, .f32⟩
  | 97 => ⟨S2x2048x1024, .f32⟩
  | 98 => ⟨S2x2048x1024, .f32⟩
  | 99 => ⟨S1x1x1024, .f32⟩
  | 100 => ⟨S2x2048x1024, .f32⟩
  | 101 => ⟨S2x2048x1024, .f32⟩
  | 102 => ⟨S_, .f32⟩
  | 103 => ⟨S2x1x1024, .f32⟩
  | 104 => ⟨S2x1x1024, .f32⟩
  | 105 => ⟨S2x2048x1024, .f32⟩
  | 106 => ⟨S2x2048x1024, .f32⟩
  | 107 => ⟨S2x2048x1024, .f32⟩
  | 108 => ⟨S2x2048x1024, .f32⟩
  | 109 => ⟨S2x2048x4512, .f32⟩
  | 110 => ⟨S2x2048x768, .f32⟩
  | 111 => ⟨S2x2048x256, .f32⟩
  | 112 => ⟨S2x2048x128, .f32⟩
  | 113 => ⟨S2x2048x32, .f32⟩
  | 114 => ⟨S2x2048x3328, .f32⟩
  | 115 => ⟨S2x2048x128, .f32⟩
  | 116 => ⟨S_, .f32⟩
  | 117 => ⟨S2x2048, .f32⟩
  | 118 => ⟨S2x2048x1, .f32⟩
  | 119 => ⟨S_, .f32⟩
  | 120 => ⟨S2x2048x1, .f32⟩
  | 121 => ⟨S2x2048x1, .f32⟩
  | 122 => ⟨S_, .f32⟩
  | 123 => ⟨S2x2048x1, .f32⟩
  | 124 => ⟨S2x2048x1, .f32⟩
  | 125 => ⟨S2x2048x1, .f32⟩
  | 126 => ⟨S2x2048x128, .f32⟩
  | 127 => ⟨S2x2048x128, .f32⟩
  | _ => ⟨S16x256x1024, .f32⟩

abbrev hbmTy0_1 (i : Nat) : BufTy := match i % 128 with
  | 0 => ⟨S1x1x128, .f32⟩
  | 1 => ⟨S2x2048x128, .f32⟩
  | 2 => ⟨S2x2048x128, .f32⟩
  | 3 => ⟨S2x2048x1024, .f32⟩
  | 4 => ⟨S2x2048x8x128, .f32⟩
  | 5 => ⟨S2x2048x8x64, .f32⟩
  | 6 => ⟨S2x2048x8x64, .f32⟩
  | 7 => ⟨S4096x768, .f32⟩
  | 8 => ⟨S4096x512, .f32⟩
  | 9 => ⟨S4096x128, .f32⟩
  | 10 => ⟨S4096x32, .f32⟩
  | 11 => ⟨S8192x768, .f32⟩
  | 12 => ⟨S8192x512, .f32⟩
  | 13 => ⟨S8192x128, .f32⟩
  | 14 => ⟨S8192x32, .f32⟩
  | 15 => ⟨S8192x512, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_cst_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_10 : Ref sig .tc := ⟨.hbm, 116, rfl⟩
abbrev main_v90 : Ref sig .tc := ⟨.hbm, 117, rfl⟩
abbrev main_v91 : Ref sig .tc := ⟨.hbm, 118, rfl⟩
abbrev main_cst_11 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩

abbrev nD : Nat := 1
abbrev τ : Topo := Topo.v7x

variable {F : FTy → Type} [FloatOps F]
-- ==== Proof.AttnRows.lean ====
/- Hand-written, untrusted: attention of one query over a sequence and a cache, over the extended reals and over no
   program: as one softmax over both, and as the two unnormalized halves over their common denominator; and the two are
   one on finite scores. -/
module

public import Idealize.ShloMosaic.Lib.Pointwise

@[expose] public section

set_option maxRecDepth 16384

noncomputable section

open Idealize.ShloMosaic
open scoped BigOperators

namespace Cert.AttnRows

/-- The scale of the scores. -/
abbrev κ : EReal := Ideal.ofBits .f32 0x3DD105EC#32

/-- Where the maxima start. -/
abbrev low : EReal := Ideal.ofBits .f32 0xFF800000#32

/-- The largest of the scores of the two halves. -/
def peak (s : Fin 2048 → EReal) (t : Fin 512 → EReal) : EReal :=
  max (Finset.univ.fold max low s) (Finset.univ.fold max low t)

/-- The two halves over their common denominator. -/
def halves (s : Fin 2048 → EReal) (t : Fin 512 → EReal) (v : Fin 2048 → EReal) (w : Fin 512 → EReal) : EReal :=
  Ideal.div (∑ x, Ideal.exp ((s x - peak s t) * κ) * v x + ∑ x, Ideal.exp ((t x - peak s t) * κ) * w x)
    (∑ x, Ideal.exp ((s x - peak s t) * κ) + ∑ x, Ideal.exp ((t x - peak s t) * κ))

/-- One softmax over all the scores, against the values. -/
def whole (s v : Fin 2560 → EReal) : EReal :=
  ∑ x, v x * Ideal.div (Ideal.exp (s x * κ - max low (Finset.univ.fold max low fun x => s x * κ)))
    (∑ x, Ideal.exp (s x * κ - max low (Finset.univ.fold max low fun x => s x * κ)))

end Cert.AttnRows

end
-- ==== Proof.AttnSoftmax.lean ====
/- Hand-written, untrusted: on finite scores the two halves over their common denominator are the one softmax over the
   sequence and the cache; over the extended reals and over no program. The values may be anything. -/
module

public import proofs.«01_k».proof.Proof.AttnRows

@[expose] public section

set_option maxRecDepth 16384

noncomputable section

open Idealize.ShloMosaic
open scoped BigOperators

namespace Cert.AttnRows

theorem low_eq : low = ⊥ := by
  show Ideal.ofBits .f32 0xFF800000#32 = ⊥
  simp [Ideal.ofBits, Ideal.ieee]

theorem κ_real : ∃ c : ℝ, 0 < c ∧ κ = (c : EReal) := by
  have e : κ = Ideal.ieee 8 23 0x3DD105EC#32 := rfl
  rw [e]
  unfold Ideal.ieee
  have h : ((0x3DD105EC#32 : BitVec 32).extractLsb' (8 + 23) 1 == 1#1) = false := by decide
  rw [h]
  dsimp only
  rw [if_neg (by decide), if_neg (by decide)]
  refine ⟨_, ?_, rfl⟩
  simp only [Bool.false_eq_true, if_false, one_mul]
  exact mul_pos (by exact_mod_cast Nat.lt_of_lt_of_le (by norm_num) (Nat.le_add_right _ _)) (zpow_pos (by norm_num) _)

/-- The sequence's numbers and then the cache's. -/
def cat {α : Type} (s : Fin 2048 → α) (t : Fin 512 → α) (x : Fin 2560) : α :=
  if h : x.val < 2048 then s ⟨x.val, h⟩ else t ⟨x.val - 2048, by omega⟩

theorem cat_map {α β : Type} (f : α → β) (s : Fin 2048 → α) (t : Fin 512 → α) (x : Fin 2560) :
    cat (fun y => f (s y)) (fun y => f (t y)) x = f (cat s t x) := by
  unfold cat; split <;> rfl

/-- A sum over both is the sum over the one and over the other. -/
theorem sum_split {m n k : ℕ} (hk : m + n = k) (F : Fin k → EReal) :
    ∑ x, F x = ∑ x : Fin m, F ⟨x.val, by omega⟩ + ∑ x : Fin n, F ⟨m + x.val, by omega⟩ := by
  subst hk; exact Fin.sum_univ_add F

theorem sum_cat (F : Fin 2560 → EReal) (f : Fin 2048 → EReal) (g : Fin 512 → EReal)
    (hf : ∀ x : Fin 2048, F ⟨x.val, by omega⟩ = f x) (hg : ∀ x : Fin 512, F ⟨2048 + x.val, by omega⟩ = g x) :
    ∑ x, f x + ∑ x, g x = ∑ x, F x := by
  rw [sum_split (m := 2048) (n := 512) rfl F]
  simp only [hf, hg]

theorem cat_left {α : Type} (s : Fin 2048 → α) (t : Fin 512 → α) (x : Fin 2048) (h) : cat s t ⟨x.val, h⟩ = s x := by
  rw [cat, dif_pos x.isLt]

theorem cat_right {α : Type} (s : Fin 2048 → α) (t : Fin 512 → α) (x : Fin 512) (h) : cat s t ⟨2048 + x.val, h⟩ = t x := by
  rw [cat, dif_neg (by simp)]; congr 1; apply Fin.ext; simp

/-- A maximum over finitely many numbers, started from the bottom. -/
theorem fold_low {n : ℕ} (f : Fin n → EReal) : Finset.univ.fold max low f = Finset.univ.sup f := by
  rw [low_eq]; rfl

/-- The largest of all the scores is the larger of the two halves' largest. -/
theorem peak_eq (s : Fin 2048 → EReal) (t : Fin 512 → EReal) : peak s t = Finset.univ.sup (cat s t) := by
  rw [peak, fold_low, fold_low]
  refine le_antisymm (max_le (Finset.sup_le fun x _ => ?_) (Finset.sup_le fun x _ => ?_)) (Finset.sup_le fun x _ => ?_)
  · rw [← cat_left s t x (by omega)]; exact Finset.le_sup (f := cat s t) (Finset.mem_univ _)
  · rw [← cat_right s t x (by omega)]; exact Finset.le_sup (f := cat s t) (Finset.mem_univ _)
  · unfold cat; split
    · exact le_max_of_le_left (Finset.le_sup (f := s) (Finset.mem_univ _))
    · exact le_max_of_le_right (Finset.le_sup (f := t) (Finset.mem_univ _))

/-- The largest of finitely many reals, and of those scaled by a positive real. -/
theorem sup_real {n : ℕ} (u : Fin n → ℝ) (c : ℝ) (hc : 0 < c) (hn : 0 < n) : ∃ i : Fin n,
    Finset.univ.sup (fun x => (u x : EReal)) = (u i : EReal)
      ∧ Finset.univ.sup (fun x => ((u x * c : ℝ) : EReal)) = ((u i * c : ℝ) : EReal) := by
  obtain ⟨i, _, hi⟩ := Finset.exists_mem_eq_sup (Finset.univ : Finset (Fin n)) ⟨⟨0, hn⟩, Finset.mem_univ _⟩
    (fun x => (u x : EReal))
  refine ⟨i, hi, le_antisymm (Finset.sup_le fun x _ => ?_) (Finset.le_sup (f := fun x => ((u x * c : ℝ) : EReal)) (Finset.mem_univ i))⟩
  have h : (u x : EReal) ≤ (u i : EReal) := by
    rw [← hi]; exact Finset.le_sup (f := fun x => (u x : EReal)) (Finset.mem_univ x)
  exact EReal.coe_le_coe_iff.2 (mul_le_mul_of_nonneg_right (EReal.coe_le_coe_iff.1 h) hc.le)

theorem sum_coe {n : ℕ} (e : Fin n → ℝ) : ∑ x, (e x : EReal) = ((∑ x, e x : ℝ) : EReal) := by
  have h : ∀ s : Finset (Fin n), ∑ x ∈ s, (e x : EReal) = ((∑ x ∈ s, e x : ℝ) : EReal) := by
    intro s
    induction s using Finset.induction_on with
    | empty => simp
    | insert a s ha ih => rw [Finset.sum_insert ha, Finset.sum_insert ha, ih, EReal.coe_add]
  exact h _

theorem sum_mul_real {n : ℕ} (f : Fin n → EReal) (r : ℝ) (hr : 0 ≤ r) : (∑ x, f x) * (r : EReal) = ∑ x, f x * (r : EReal) := by
  have h : ∀ s : Finset (Fin n), (∑ x ∈ s, f x) * (r : EReal) = ∑ x ∈ s, f x * (r : EReal) := by
    intro s
    induction s using Finset.induction_on with
    | empty => simp
    | insert a s ha ih =>
      rw [Finset.sum_insert ha, Finset.sum_insert ha, ← ih]
      exact EReal.right_distrib_of_nonneg_of_ne_top (EReal.coe_nonneg.2 hr) (EReal.coe_ne_top r) _ _
  exact h _

/-- The softmax of finite scores against any values: dividing at the end or before the sum is one. -/
theorem div_sum {n : ℕ} (hn : 0 < n) (e : Fin n → ℝ) (he : ∀ x, 0 < e x) (v : Fin n → EReal) :
    Ideal.div (∑ x, (e x : EReal) * v x) (∑ x, (e x : EReal)) = ∑ x, v x * Ideal.div (e x : EReal) (∑ x, (e x : EReal)) := by
  have hd : 0 < ∑ x, e x := Finset.sum_pos (fun x _ => he x) ⟨⟨0, hn⟩, Finset.mem_univ _⟩
  rw [sum_coe, Ideal.div_coe hd.ne', sum_mul_real _ _ (one_div_pos.2 hd).le]
  refine Finset.sum_congr rfl fun x _ => ?_
  rw [Ideal.div_coe hd.ne', mul_comm (e x : EReal) (v x), mul_assoc]

/-- On finite scores the two halves over their common denominator are the one softmax. -/
theorem halves_eq (s : Fin 2048 → EReal) (t : Fin 512 → EReal) (v : Fin 2048 → EReal) (w : Fin 512 → EReal)
    (hs : ∀ x, ∃ a : ℝ, s x = a) (ht : ∀ x, ∃ a : ℝ, t x = a) : halves s t v w = whole (cat s t) (cat v w) := by
  obtain ⟨c, hc, hκ⟩ := κ_real
  choose a ha using hs
  choose b hb using ht
  have hu : ∀ x, cat s t x = ((cat a b x : ℝ) : EReal) := fun x => by
    rw [← cat_map (fun y : ℝ => (y : EReal)) a b x]
    exact congrFun (congrArg₂ cat (funext ha) (funext hb)) x
  obtain ⟨i, h1, h2⟩ := sup_real (cat a b) c hc (by norm_num)
  have hp : peak s t = ((cat a b i : ℝ) : EReal) := by
    rw [peak_eq, show cat s t = fun x => ((cat a b x : ℝ) : EReal) from funext hu, h1]
  have hq : max low (Finset.univ.fold max low fun x => cat s t x * κ) = ((cat a b i * c : ℝ) : EReal) := by
    rw [fold_low, low_eq, max_eq_right bot_le, ← h2]
    refine congrArg _ (funext fun x => ?_)
    rw [hu, hκ, EReal.coe_mul]
  let e : Fin 2560 → ℝ := fun x => Real.exp ((cat a b x - cat a b i) * c)
  have he : ∀ x, Ideal.exp ((cat s t x - peak s t) * κ) = (e x : EReal) := fun x => by
    rw [hu, hp, hκ, ← EReal.coe_sub, ← EReal.coe_mul]; rfl
  have hf : ∀ x, Ideal.exp (cat s t x * κ - max low (Finset.univ.fold max low fun x => cat s t x * κ)) = (e x : EReal) := fun x => by
    rw [hq, hu, hκ, ← EReal.coe_mul, ← EReal.coe_sub, ← sub_mul]; rfl
  rw [halves, whole, sum_cat (fun x => (e x : EReal) * cat v w x) _ _ ?_ ?_, sum_cat (fun x => (e x : EReal)) _ _ ?_ ?_,
    div_sum (by norm_num) e (fun x => Real.exp_pos _)]
  · simp only [hf]
  · intro x; rw [← he, cat_left]
  · intro x; rw [← he, cat_right]
  · intro x; simp only [← he, cat_left]
  · intro x; simp only [← he, cat_right]

end Cert.AttnRows

end
-- ==== Proof.AttnAt.lean ====
/- Hand-written, untrusted: the attention of the sampled sequences at a token and a column, over the arguments and over no
   program: one softmax over the sequence's keys and the cache's, against the values. -/
module

public import proofs.«01_k».proof.Proof.AttnSoftmax

@[expose] public section

set_option maxRecDepth 16384

noncomputable section

open Idealize.ShloMosaic
open scoped BigOperators

namespace Cert.AttnRows

/-- The scores of a token's query against its sequence's keys, before the scale. -/
def seqScore (q k : FVec Ideal ⟨3, ![8192, 8, 96]⟩ .bf16) (r : Fin 4096) (h : Fin 8) (x : Fin 2048) : EReal :=
  ∑ d : Fin 96, q (ix3 ⟨4096 + r.val, by omega⟩ h d) * k (ix3 ⟨4096 + (r.val / 2048 * 2048 + x.val), by omega⟩ h d)

/-- The scores of a token's query against its sequence's cached keys, before the scale. -/
def cacheScore (q : FVec Ideal ⟨3, ![8192, 8, 96]⟩ .bf16) (kc : FVec Ideal ⟨4, ![2, 512, 8, 96]⟩ .bf16) (r : Fin 4096) (h : Fin 8)
    (x : Fin 512) : EReal :=
  ∑ d : Fin 96, q (ix3 ⟨4096 + r.val, by omega⟩ h d) * kc (ix4 ⟨r.val / 2048, by omega⟩ x h d)

/-- The values a token's sequence has in a column. -/
def seqVal (v : FVec Ideal ⟨2, ![8192, 512]⟩ .bf16) (r : Fin 4096) (j : Fin 512) (x : Fin 2048) : EReal :=
  v (ix2 ⟨4096 + (r.val / 2048 * 2048 + x.val), by omega⟩ j)

/-- The cached values of a token's sequence in a column. -/
def cacheVal (vc : FVec Ideal ⟨3, ![2, 512, 512]⟩ .bf16) (r : Fin 4096) (j : Fin 512) (x : Fin 512) : EReal :=
  vc (ix3 ⟨r.val / 2048, by omega⟩ x j)

/-- The attention at a token and a column. -/
def attnAt (q k : FVec Ideal ⟨3, ![8192, 8, 96]⟩ .bf16) (v : FVec Ideal ⟨2, ![8192, 512]⟩ .bf16)
    (kc : FVec Ideal ⟨4, ![2, 512, 8, 96]⟩ .bf16) (vc : FVec Ideal ⟨3, ![2, 512, 512]⟩ .bf16) (r : Fin 4096) (j : Fin 512) : EReal :=
  whole (cat (seqScore q k r ⟨j.val / 64, by omega⟩) (cacheScore q kc r ⟨j.val / 64, by omega⟩)) (cat (seqVal v r j) (cacheVal vc r j))

/-- The same by the two halves over their common denominator. -/
def halvesAt (q k : FVec Ideal ⟨3, ![8192, 8, 96]⟩ .bf16) (v : FVec Ideal ⟨2, ![8192, 512]⟩ .bf16)
    (kc : FVec Ideal ⟨4, ![2, 512, 8, 96]⟩ .bf16) (vc : FVec Ideal ⟨3, ![2, 512, 512]⟩ .bf16) (r : Fin 4096) (j : Fin 512) : EReal :=
  halves (seqScore q k r ⟨j.val / 64, by omega⟩) (cacheScore q kc r ⟨j.val / 64, by omega⟩) (seqVal v r j) (cacheVal vc r j)

/-- A finite number times a finite number, summed, is finite. -/
theorem dot_real {n : ℕ} (f g : Fin n → EReal) (hf : ∀ d, ∃ a : ℝ, f d = a) (hg : ∀ d, ∃ a : ℝ, g d = a) :
    ∃ a : ℝ, ∑ d, f d * g d = a := by
  choose a ha using hf
  choose b hb using hg
  exact ⟨∑ d, a d * b d, by rw [← sum_coe]; exact Finset.sum_congr rfl fun d _ => by rw [ha, hb, EReal.coe_mul]⟩

/-- On finite queries, keys and cached keys the two are one. -/
theorem halvesAt_eq (q k : FVec Ideal ⟨3, ![8192, 8, 96]⟩ .bf16) (v : FVec Ideal ⟨2, ![8192, 512]⟩ .bf16)
    (kc : FVec Ideal ⟨4, ![2, 512, 8, 96]⟩ .bf16) (vc : FVec Ideal ⟨3, ![2, 512, 512]⟩ .bf16) (r : Fin 4096) (j : Fin 512)
    (hq : ∀ i, ∃ a : ℝ, q i = (a : EReal)) (hk : ∀ i, ∃ a : ℝ, k i = (a : EReal)) (hkc : ∀ i, ∃ a : ℝ, kc i = (a : EReal)) :
    halvesAt q k v kc vc r j = attnAt q k v kc vc r j :=
  halves_eq _ _ _ _ (fun _ => dot_real _ _ (fun _ => hq _) (fun _ => hk _)) (fun _ => dot_real _ _ (fun _ => hq _) (fun _ => hkc _))

/-- A sum of products over a slot of 128 that holds 96 numbers and then zeros. -/
theorem sum_slot (f g : Fin 128 → EReal) (a b : Fin 96 → EReal) (hf : ∀ d, f d = if h : d.val < 96 then a ⟨d.val, h⟩ else 0)
    (hg : ∀ d, g d = if h : d.val < 96 then b ⟨d.val, h⟩ else 0) : ∑ d, f d * g d = ∑ d, a d * b d := by
  rw [sum_split (m := 96) (n := 32) rfl]
  have h0 : ∑ x : Fin 32, f ⟨96 + x.val, by omega⟩ * g ⟨96 + x.val, by omega⟩ = 0 := Finset.sum_eq_zero fun x _ => by
    rw [hf, dif_neg (by simp), zero_mul]
  rw [h0, add_zero]
  exact Finset.sum_congr rfl fun x _ => by rw [hf, hg, dif_pos x.isLt, dif_pos x.isLt]

end Cert.AttnRows

end
-- ==== Proof.AttnRef.lean ====
/- Hand-written, untrusted: what the reference's attention leaves, read at a token and a column. -/
module

public import proofs.«01_k».proof.Proof.Gen.ReferenceIdeal.Run
public import proofs.«01_k».proof.Proof.AttnAt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Attn

open Cert.ReferenceIdeal Cert.ReferenceIdeal.Gen

def queries (q : FVec Ideal S8192x8x96 .bf16) : FVec Ideal S2x2048x8x96 .f32 :=
  shapeCast _ (extractStridedSlice S4096x8x96 ![4096, 0, 0] (extf .f32 q bitsLt_bf16_f32) slices_S8192x8x96_S4096x8x96_4096_0_0) shapeCasts_S4096x8x96_S2x2048x8x96

def keys (k : FVec Ideal S8192x8x96 .bf16) (kc : FVec Ideal S2x512x8x96 .bf16) : FVec Ideal S2x2560x8x96 .f32 :=
  concatenate S2x2560x8x96 1 [⟨S2x2048x8x96, (shapeCast _ (extractStridedSlice S4096x8x96 ![4096, 0, 0] (extf .f32 k bitsLt_bf16_f32) slices_S8192x8x96_S4096x8x96_4096_0_0) shapeCasts_S4096x8x96_S2x2048x8x96)⟩, ⟨S2x512x8x96, (extf .f32 kc bitsLt_bf16_f32)⟩] concatenates_S2x2048x8x96_S2x512x8x96_S2x2560x8x96_d1

def vals (v : FVec Ideal S8192x512 .bf16) (vc : FVec Ideal S2x512x512 .bf16) : FVec Ideal S2x2560x8x64 .f32 :=
  concatenate S2x2560x8x64 1 [⟨S2x2048x8x64, (shapeCast _ (extractStridedSlice S4096x512 ![4096, 0] (extf .f32 v bitsLt_bf16_f32) slices_S8192x512_S4096x512_4096_0) shapeCasts_S4096x512_S2x2048x8x64)⟩, ⟨S2x512x8x64, (shapeCast _ (extf .f32 vc bitsLt_bf16_f32) shapeCasts_S2x512x512_S2x512x8x64)⟩] concatenates_S2x2048x8x64_S2x512x8x64_S2x2560x8x64_d1

def scores (a : FVec Ideal S2x2048x8x96 .f32) (b : FVec Ideal S2x2560x8x96 .f32) : FVec Ideal S2x8x2048x2560 .f32 :=
  mulf (Host.dotGeneral dot_S2x2048x8x96_S2x2560x8x96_S2x8x2048x2560_3_3_1_1_02_02 none a b) (broadcastInDim S2x8x2048x2560 ![] bcast_S_S2x8x2048x2560 (constant S_ .f32 0x3DD105EC#32))

def tops (s : FVec Ideal S2x8x2048x2560 .f32) : FVec Ideal S2x8x2048 .f32 :=
  maximumf (broadcastInDim S2x8x2048 ![] bcast_S_S2x8x2048 (constant S_ .f32 0xFF800000#32)) (Host.reduce FloatOps.maximumf s (constant S_ .f32 0xFF800000#32) reducesTo_S2x8x2048x2560_S2x8x2048_d3 h_S_)

def exps (s : FVec Ideal S2x8x2048x2560 .f32) : FVec Ideal S2x8x2048x2560 .f32 :=
  Host.exp (subf s (broadcastInDim S2x8x2048x2560 ![0, 1, 2, 3] bcast_S2x8x2048x1_S2x8x2048x2560_0_1_2_3 (broadcastInDim S2x8x2048x1 ![0, 1, 2] bcast_S2x8x2048_S2x8x2048x1_0_1_2 (tops s))))

def probs (e : FVec Ideal S2x8x2048x2560 .f32) : FVec Ideal S2x8x2048x2560 .f32 :=
  Host.divf e (broadcastInDim S2x8x2048x2560 ![0, 1, 2, 3] bcast_S2x8x2048x1_S2x8x2048x2560_0_1_2_3 (broadcastInDim S2x8x2048x1 ![0, 1, 2] bcast_S2x8x2048_S2x8x2048x1_0_1_2 (Host.reduceAdd e (constant S_ .f32 0x00000000#32) reducesTo_S2x8x2048x2560_S2x8x2048_d3 h_S_)))

def outs (b : FVec Ideal S2x2560x8x64 .f32) (p : FVec Ideal S2x8x2048x2560 .f32) : FVec Ideal S4096x512 .bf16 :=
  truncf .bf16 (shapeCast _ (transpose S2x2048x8x64 [0, 3, 1, 2] (Host.dotGeneral dot_S2x2560x8x64_S2x8x2048x2560_S2x8x64x2048_1_3_3_2_02_01 none b p) transposes_S2x8x64x2048_S2x2048x8x64_0_3_1_2) shapeCasts_S2x2048x8x64_S4096x512) bitsLt_bf16_f32

section
variable (m : (ℓ : Loc nD τ sig) → Buf (Elt Ideal) ℓ) (c : Dev nD)

theorem res_eq : Value.res_main_v31 m c
    = outs (vals (m ((c.tc : Thread nD τ).loc main_arg2)) (m ((c.tc : Thread nD τ).loc main_arg4))) (probs (exps (scores (queries (m ((c.tc : Thread nD τ).loc main_arg0))) (keys (m ((c.tc : Thread nD τ).loc main_arg1)) (m ((c.tc : Thread nD τ).loc main_arg3)))))) := rfl
end

theorem maximumf_at {t : Shape} (x y : FVec Ideal t .f32) (i : t.Idx) : maximumf x y i = max (x i) (y i) := rfl

theorem constant_at {t : Shape} (b : BitVec 32) (i : t.Idx) : constant (F := Ideal) t .f32 b i = Ideal.ofBits .f32 b := rfl

/-- A maximum along the last of four axes, at an index. -/
theorem reduce_max_at {a b c n : ℕ} {u : Shape} (s : FVec Ideal ⟨4, ![a, b, c, n]⟩ .f32) (init : FVec Ideal u .f32)
    (h : (⟨4, ![a, b, c, n]⟩ : Shape).ReducesTo [3] ⟨3, ![a, b, c]⟩) (hu : 0 < u.numel) (z : EReal)
    (hz : init (Shape.Idx.first hu) = z) (i : Fin a) (j : Fin b) (k : Fin c) :
    Host.reduce FloatOps.maximumf s init h hu (ix3 i j k) = Finset.univ.fold max z fun x : Fin n => s (ix4 i j k x) := by
  subst hz
  pointwise

theorem queries_at (q) (b : Fin 2) (r : Fin 2048) (h : Fin 8) (d : Fin 96) :
    queries q (ix4 b r h d) = q (ix3 ⟨4096 + (b.val * 2048 + r.val), by omega⟩ h d) := by
  pointwise [queries]

theorem keys_at (k kc) (b : Fin 2) (x : Fin 2560) (h : Fin 8) (d : Fin 96) :
    keys k kc (ix4 b x h d) = AttnRows.cat (fun x => k (ix3 ⟨4096 + (b.val * 2048 + x.val), by omega⟩ h d)) (fun x => kc (ix4 b x h d)) x := by
  pointwise [keys, AttnRows.cat]

theorem vals_at (v vc) (b : Fin 2) (x : Fin 2560) (h : Fin 8) (d : Fin 64) :
    vals v vc (ix4 b x h d) = AttnRows.cat (fun x => v (ix2 ⟨4096 + (b.val * 2048 + x.val), by omega⟩ ⟨h.val * 64 + d.val, by omega⟩))
      (fun x => vc (ix3 b x ⟨h.val * 64 + d.val, by omega⟩)) x := by
  pointwise [vals, AttnRows.cat]

theorem scores_at (a b) (i : Fin 2) (h : Fin 8) (r : Fin 2048) (x : Fin 2560) :
    scores a b (ix4 i h r x) = (∑ d : Fin 96, a (ix4 i r h d) * b (ix4 i x h d)) * AttnRows.κ := by
  pointwise [scores]

theorem tops_at (s) (i : Fin 2) (h : Fin 8) (r : Fin 2048) :
    tops s (ix3 i h r) = max AttnRows.low (Finset.univ.fold max AttnRows.low fun x : Fin 2560 => s (ix4 i h r x)) := by
  have e : broadcastInDim S2x8x2048 ![] bcast_S_S2x8x2048 (constant (F := Ideal) S_ .f32 0xFF800000#32) (ix3 i h r) = AttnRows.low := by pointwise
  unfold tops
  rw [maximumf_at, e, reduce_max_at s _ _ _ AttnRows.low (constant_at _ _)]

theorem exps_at (s) (i : Fin 2) (h : Fin 8) (r : Fin 2048) (x : Fin 2560) :
    exps s (ix4 i h r x) = Ideal.exp (s (ix4 i h r x) - tops s (ix3 i h r)) := by
  pointwise [exps]

theorem probs_at (e) (i : Fin 2) (h : Fin 8) (r : Fin 2048) (x : Fin 2560) :
    probs e (ix4 i h r x) = Ideal.div (e (ix4 i h r x)) (∑ y : Fin 2560, e (ix4 i h r y)) := by
  pointwise [probs]

theorem outs_at (b p) (r : Fin 4096) (j : Fin 512) :
    outs b p (ix2 r j) = ∑ x : Fin 2560, b (ix4 ⟨r.val / 2048, by omega⟩ x ⟨j.val / 64, by omega⟩ ⟨j.val % 64, by omega⟩)
      * p (ix4 ⟨r.val / 2048, by omega⟩ ⟨j.val / 64, by omega⟩ ⟨r.val % 2048, by omega⟩ x) := by
  pointwise [outs]

/-- The scores against the sequence's keys and the cache's. -/
theorem score_cat (q k : FVec Ideal S8192x8x96 .bf16) (kc : FVec Ideal S2x512x8x96 .bf16) (r : Fin 4096) (h : Fin 8) (x : Fin 2560)
    (hr : 4096 + (r.val / 2048 * 2048 + r.val % 2048) < 8192) (hb : r.val / 2048 < 2)
    (hx : ∀ x : Fin 2048, 4096 + (r.val / 2048 * 2048 + x.val) < 8192) :
    (∑ d : Fin 96, q (ix3 ⟨4096 + (r.val / 2048 * 2048 + r.val % 2048), hr⟩ h d)
        * AttnRows.cat (fun x => k (ix3 ⟨4096 + (r.val / 2048 * 2048 + x.val), hx x⟩ h d)) (fun x => kc (ix4 ⟨r.val / 2048, hb⟩ x h d)) x)
      = AttnRows.cat (AttnRows.seqScore q k r h) (AttnRows.cacheScore q kc r h) x := by
  have er : r.val / 2048 * 2048 + r.val % 2048 = r.val := by omega
  simp only [er, AttnRows.cat, AttnRows.seqScore, AttnRows.cacheScore]
  split <;> rfl

/-- The values of the sequence and of the cache. -/
theorem val_cat (v : FVec Ideal S8192x512 .bf16) (vc : FVec Ideal S2x512x512 .bf16) (r : Fin 4096) (j : Fin 512) (x : Fin 2560)
    (hj : j.val / 64 * 64 + j.val % 64 < 512) (hb : r.val / 2048 < 2)
    (hx : ∀ x : Fin 2048, 4096 + (r.val / 2048 * 2048 + x.val) < 8192) :
    AttnRows.cat (fun x => v (ix2 ⟨4096 + (r.val / 2048 * 2048 + x.val), hx x⟩ ⟨j.val / 64 * 64 + j.val % 64, hj⟩))
        (fun x => vc (ix3 ⟨r.val / 2048, hb⟩ x ⟨j.val / 64 * 64 + j.val % 64, hj⟩)) x
      = AttnRows.cat (AttnRows.seqVal v r j) (AttnRows.cacheVal vc r j) x := by
  have ej : j.val / 64 * 64 + j.val % 64 = j.val := by omega
  simp only [ej]
  rfl

/-- The reference's attention at a token and a column. -/
theorem res_at (m : (ℓ : Loc nD τ sig) → Buf (Elt Ideal) ℓ) (c : Dev nD) (r : Fin 4096) (j : Fin 512) :
    Value.res_out0 m c (ix2 r j) = AttnRows.attnAt (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) r j := by
  show Value.res_main_v31 m c (ix2 r j) = _
  rw [res_eq, outs_at]
  simp only [probs_at, exps_at, tops_at, scores_at, queries_at, keys_at, vals_at]
  simp only [score_cat, val_cat]
  rfl

end Cert.ReferenceIdeal.Attn

end
-- ==== Proof.AttnHead.lean ====
/- Hand-written, untrusted: one head of the kernel's attention over its slots, and two heads' results in one pair of
   slots, read at an index. -/
module

public import proofs.«01_k».proof.Proof.Gen.KernelIdeal.Frame
public import proofs.«01_k».proof.Proof.AttnRows
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen

/-- One head's attention over its slots of the queries, the keys, the cached keys, the values and the cached values. -/
def head (q : FVec Ideal S512x128 .bf16) (k : FVec Ideal S2048x128 .bf16) (kc : FVec Ideal S1x512x128 .bf16)
    (v : FVec Ideal S2048x128 .bf16) (vc : FVec Ideal S1x512x128 .bf16) : FVec Ideal S512x128 .f32 :=
  k0_pay12 (F := Ideal) (k0_pay8 q k kc v) (k0_pay10 q k kc) (k0_pay11 q k kc) vc

/-- Two heads' results side by side in one pair of slots. -/
def two (a b : FVec Ideal S512x128 .f32) : FVec Ideal S512x128 .bf16 :=
  truncf .bf16 (select (broadcastTo S512x128 (shapeCast S1x128 k0_pay2 shapeCasts_S1x128_S1x128) broadcasts_S1x128_S512x128) a b) bitsLt_bf16_f32

section
variable (q : FVec Ideal S512x128 .bf16) (k : FVec Ideal S2048x128 .bf16) (kc : FVec Ideal S1x512x128 .bf16)
    (v : FVec Ideal S2048x128 .bf16) (vc : FVec Ideal S1x512x128 .bf16)

theorem s_at (r : Fin 512) (x : Fin 2048) : k0_pay4 (F := Ideal) q k (ix2 r x) = ∑ d : Fin 128, q (ix2 r d) * k (ix2 x d) := by
  pointwise [k0_pay4, k0_pay3]

theorem t_at (r : Fin 512) (x : Fin 512) : k0_pay5 (F := Ideal) q kc (ix2 r x) = ∑ d : Fin 128, q (ix2 r d) * kc (ix3 0 x d) := by
  pointwise [k0_pay5, k0_pay3]

theorem peak_at (r : Fin 512) : k0_pay6 (F := Ideal) q k kc (ix2 r 0)
    = AttnRows.peak (fun x => k0_pay4 (F := Ideal) q k (ix2 r x)) (fun x => k0_pay5 (F := Ideal) q kc (ix2 r x)) := by
  pointwise [k0_pay6, AttnRows.peak]

theorem p_at (r : Fin 512) (x : Fin 2048) : k0_pay7 (F := Ideal) q k kc (ix2 r x)
    = Ideal.exp ((k0_pay4 (F := Ideal) q k (ix2 r x) - k0_pay6 (F := Ideal) q k kc (ix2 r 0)) * AttnRows.κ) := by
  pointwise [k0_pay7]

theorem pc_at (r : Fin 512) (x : Fin 512) : k0_pay9 (F := Ideal) q k kc (ix2 r x)
    = Ideal.exp ((k0_pay5 (F := Ideal) q kc (ix2 r x) - k0_pay6 (F := Ideal) q k kc (ix2 r 0)) * AttnRows.κ) := by
  pointwise [k0_pay9]

theorem head_at' (r : Fin 512) (j : Fin 128) : head q k kc v vc (ix2 r j)
    = Ideal.div (∑ x : Fin 2048, k0_pay7 (F := Ideal) q k kc (ix2 r x) * v (ix2 x j) + ∑ x : Fin 512, k0_pay9 (F := Ideal) q k kc (ix2 r x) * vc (ix3 0 x j))
      (∑ x : Fin 2048, k0_pay7 (F := Ideal) q k kc (ix2 r x) + ∑ x : Fin 512, k0_pay9 (F := Ideal) q k kc (ix2 r x)) := by
  pointwise [head, k0_pay12, k0_pay8, k0_pay10, k0_pay11]

theorem head_at (r : Fin 512) (j : Fin 128) : head q k kc v vc (ix2 r j)
    = AttnRows.halves (fun x => ∑ d : Fin 128, q (ix2 r d) * k (ix2 x d)) (fun x => ∑ d : Fin 128, q (ix2 r d) * kc (ix3 0 x d))
      (fun x => v (ix2 x j)) (fun x => vc (ix3 0 x j)) := by
  rw [head_at']
  simp only [p_at, pc_at, peak_at, s_at, t_at, AttnRows.halves]

theorem two_at (a b : FVec Ideal S512x128 .f32) (r : Fin 512) (j : Fin 128) :
    two a b (ix2 r j) = if j.val < 64 then a (ix2 r j) else b (ix2 r j) := by
  pointwise [two, k0_pay2]
  rw [show (64#32 : BitVec 32) = BitVec.ofNat 32 64 from rfl, WordCmp.cmpi_slt_ofNat (by omega) (by omega)]
  by_cases h : j.val < 64
  · rw [if_pos h, decide_eq_true h]; rfl
  · rw [if_neg h, decide_eq_false h]; rfl
end

end Cert.KernelIdeal.Attn

end
-- ==== Proof.AttnPieces.lean ====
/- Hand-written, untrusted: each of the four tiles the kernel stores holds two heads side by side, whichever way its text
   is cut. -/
module

public import proofs.«01_k».proof.Proof.AttnHead

@[expose] public section

set_option maxRecDepth 16384

noncomputable section

open Idealize.ShloMosaic Idealize.ShloMosaic.TcCoe Idealize.SL.Sem
open scoped BigOperators

namespace Cert.KernelIdeal.Attn

open Cert.KernelIdeal Cert.KernelIdeal.Gen

variable (q q' : FVec Ideal S512x128 .bf16) (k k' : FVec Ideal S2048x128 .bf16) (kc kc' : FVec Ideal S1x512x128 .bf16)
    (v : FVec Ideal S2048x128 .bf16) (vc : FVec Ideal S1x512x128 .bf16)

theorem tile0 : k0_pay22 (F := Ideal) k0_pay2 (k0_pay12 (k0_pay8 q k kc v) (k0_pay10 q k kc) (k0_pay11 q k kc) vc)
    (k0_pay18 q' k' kc' v) (k0_pay20 q' k' kc') (k0_pay21 q' k' kc') vc = two (head q k kc v vc) (head q' k' kc' v vc) := rfl

theorem tile1 : k0_pay40 (F := Ideal) k0_pay2 (k0_pay31 (k0_pay28 q k kc) (k0_pay29 q k kc v) (k0_pay30 q k kc) vc)
    (k0_pay37 q' k' kc') (k0_pay38 q' k' kc' v) (k0_pay39 q' k' kc') vc = two (head q k kc v vc) (head q' k' kc' v vc) := rfl

theorem tile2 : k0_pay56 (F := Ideal) k0_pay2 (k0_pay48 (k0_pay43 q kc) (k0_pay44 q k kc) (k0_pay46 q k kc) (k0_pay47 q k kc) v (constant S512x128 .f32 0x00000000#32) vc)
    (k0_pay51 q' kc') (k0_pay52 q' k' kc') (k0_pay54 q' k' kc') (k0_pay55 q' k' kc') v (constant S512x128 .f32 0x00000000#32) vc
    = two (head q k kc v vc) (head q' k' kc' v vc) := rfl

theorem tile3 : k0_pay1 (F := Ideal) k0_pay2 (k0_pay62 (k0_pay59 q kc) (k0_pay60 q k kc) (k0_pay61 q k kc) v vc)
    (k0_pay65 q' kc') (k0_pay66 q' k' kc') (k0_pay67 q' k' kc') v vc = two (head q k kc v vc) (head q' k' kc' v vc) := rfl

end Cert.KernelIdeal.Attn

end
-- ==== Proof.AttnBlock.lean ====
/- Hand-written, untrusted: a pair of heads at a block's token and column. -/
module

public import proofs.«01_k».proof.Proof.Gen.KernelIdeal.Value
public import proofs.«01_k».proof.Proof.AttnPieces
public import proofs.«01_k».proof.Proof.AttnAt
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen

/-- The attention of a block's token in a column, over the blocks with their padded slots. -/
def blkAt (x0 : FVec Ideal S512x1024 .bf16) (x1 : FVec Ideal S2048x1024 .bf16) (x2 : FVec Ideal S2048x512 .bf16)
    (x3 : FVec Ideal S1x512x1024 .bf16) (x4 : FVec Ideal S1x512x512 .bf16) (r j : Fin 512) : EReal :=
  AttnRows.halves (fun x => ∑ d : Fin 128, x0 (ix2 r ⟨j.val / 64 * 128 + d.val, by omega⟩) * x1 (ix2 x ⟨j.val / 64 * 128 + d.val, by omega⟩))
    (fun x => ∑ d : Fin 128, x0 (ix2 r ⟨j.val / 64 * 128 + d.val, by omega⟩) * x3 (ix3 0 x ⟨j.val / 64 * 128 + d.val, by omega⟩))
    (fun x => x2 (ix2 x j)) (fun x => x4 (ix3 0 x j))

section
variable (x0 : FVec Ideal S512x1024 .bf16) (x1 : FVec Ideal S2048x1024 .bf16) (x2 : FVec Ideal S2048x512 .bf16)
    (x3 : FVec Ideal S1x512x1024 .bf16) (x4 : FVec Ideal S1x512x512 .bf16)

/-- One head of a pair at a token and a column. -/
theorem head_blk (q : FVec Ideal S512x128 .bf16) (k : FVec Ideal S2048x128 .bf16) (kc : FVec Ideal S1x512x128 .bf16)
    (v : FVec Ideal S2048x128 .bf16) (vc : FVec Ideal S1x512x128 .bf16) (r : Fin 512) (j : Fin 128) (J : Fin 512)
    (hq : ∀ r d, q (ix2 r d) = x0 (ix2 r ⟨J.val / 64 * 128 + d.val, by omega⟩))
    (hk : ∀ x d, k (ix2 x d) = x1 (ix2 x ⟨J.val / 64 * 128 + d.val, by omega⟩))
    (hkc : ∀ x d, kc (ix3 0 x d) = x3 (ix3 0 x ⟨J.val / 64 * 128 + d.val, by omega⟩))
    (hv : ∀ x, v (ix2 x j) = x2 (ix2 x J)) (hvc : ∀ x, vc (ix3 0 x j) = x4 (ix3 0 x J)) :
    head q k kc v vc (ix2 r j) = blkAt x0 x1 x2 x3 x4 r J := by
  rw [head_at]
  simp only [hq, hk, hkc, hv, hvc]
  rfl

/-- A pair of heads at a token and a column. -/
theorem pair_blk (p : ℕ) (hp : p < 4) (q q' : FVec Ideal S512x128 .bf16) (k k' : FVec Ideal S2048x128 .bf16) (kc kc' : FVec Ideal S1x512x128 .bf16)
    (v : FVec Ideal S2048x128 .bf16) (vc : FVec Ideal S1x512x128 .bf16) (r : Fin 512) (j : Fin 128) (R J : Fin 512)
    (hR : R.val = 0 + r.val) (hJ : J.val = 128 * p + j.val)
    (hq : ∀ r d, q (ix2 r d) = x0 (ix2 r ⟨256 * p + d.val, by omega⟩))
    (hk : ∀ x d, k (ix2 x d) = x1 (ix2 x ⟨256 * p + d.val, by omega⟩))
    (hkc : ∀ x d, kc (ix3 0 x d) = x3 (ix3 0 x ⟨256 * p + d.val, by omega⟩))
    (hq' : ∀ r d, q' (ix2 r d) = x0 (ix2 r ⟨256 * p + 128 + d.val, by omega⟩))
    (hk' : ∀ x d, k' (ix2 x d) = x1 (ix2 x ⟨256 * p + 128 + d.val, by omega⟩))
    (hkc' : ∀ x d, kc' (ix3 0 x d) = x3 (ix3 0 x ⟨256 * p + 128 + d.val, by omega⟩))
    (hv : ∀ x (j : Fin 128), v (ix2 x j) = x2 (ix2 x ⟨128 * p + j.val, by omega⟩))
    (hvc : ∀ x (j : Fin 128), vc (ix3 0 x j) = x4 (ix3 0 x ⟨128 * p + j.val, by omega⟩)) :
    two (head q k kc v vc) (head q' k' kc' v vc) (ix2 r j) = blkAt x0 x1 x2 x3 x4 R J := by
  obtain rfl : R = r := Fin.ext (by omega)
  have eJ : J = ⟨128 * p + j.val, by omega⟩ := Fin.ext hJ
  rw [two_at]
  split
  · have e : J.val / 64 * 128 = 256 * p := by omega
    refine head_blk x0 x1 x2 x3 x4 q k kc v vc R j J ?_ ?_ ?_ ?_ ?_
    · intro r d; simp only [e]; exact hq r d
    · intro r d; simp only [e]; exact hk r d
    · intro r d; simp only [e]; exact hkc r d
    · intro x; rw [eJ]; exact hv x j
    · intro x; rw [eJ]; exact hvc x j
  · have e : J.val / 64 * 128 = 256 * p + 128 := by omega
    refine head_blk x0 x1 x2 x3 x4 q' k' kc' v vc R j J ?_ ?_ ?_ ?_ ?_
    · intro r d; simp only [e]; exact hq' r d
    · intro r d; simp only [e]; exact hk' r d
    · intro r d; simp only [e]; exact hkc' r d
    · intro x; rw [eJ]; exact hv x j
    · intro x; rw [eJ]; exact hvc x j

end

end Cert.KernelIdeal.Attn

end
-- ==== Proof.AttnPairs.lean ====
/- Hand-written, untrusted: the four pairs of heads over what is read of the blocks. -/
module

public import proofs.«01_k».proof.Proof.Gen.KernelIdeal.Value
public import proofs.«01_k».proof.Proof.AttnBlock
public import proofs.«01_k».proof.Proof.AttnAt
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen

/-- A part of a matrix at an index. -/
theorem at2 {n m a b : ℕ} (x : Vec Ideal ⟨2, ![n, m]⟩ .bf16) (o : Fin 2 → ℕ)
    (inb : ∀ i, o i + (![a, b] : Fin 2 → ℕ) i ≤ (⟨2, ![n, m]⟩ : Shape).size i) (i : Fin a) (j : Fin b) (I : Fin n) (J : Fin m)
    (hI : I.val = o 0 + i.val) (hJ : J.val = o 1 + j.val) :
    View.ld (Val := Elt Ideal) x (Rect.unit (s := ⟨2, ![n, m]⟩) o ![a, b] inb) (ix2 i j) = x (ix2 I J) := by
  refine congrArg x ?_
  funext c
  apply Fin.ext
  match c with
  | ⟨0, _⟩ => show o 0 + 1 * i.val = I.val; omega
  | ⟨1, _⟩ => show o 1 + 1 * j.val = J.val; omega

/-- A part of a matrix behind an index of one, at an index. -/
theorem at3 {n m a b : ℕ} (x : Vec Ideal ⟨3, ![1, n, m]⟩ .bf16) (o : Fin 3 → ℕ)
    (inb : ∀ i, o i + (![1, a, b] : Fin 3 → ℕ) i ≤ (⟨3, ![1, n, m]⟩ : Shape).size i) (i : Fin a) (j : Fin b) (I : Fin n) (J : Fin m)
    (h0 : o 0 = 0) (hI : I.val = o 1 + i.val) (hJ : J.val = o 2 + j.val) :
    View.ld (Val := Elt Ideal) x (Rect.unit (s := ⟨3, ![1, n, m]⟩) o ![1, a, b] inb) (ix3 0 i j) = x (ix3 0 I J) := by
  refine congrArg x ?_
  funext c
  apply Fin.ext
  match c with
  | ⟨0, _⟩ => show o 0 + 1 * 0 = 0; omega
  | ⟨1, _⟩ => show o 1 + 1 * i.val = I.val; omega
  | ⟨2, _⟩ => show o 2 + 1 * j.val = J.val; omega

section
variable (x0 : Vec Ideal S512x1024 .bf16) (x1 : Vec Ideal S2048x1024 .bf16) (x2 : Vec Ideal S2048x512 .bf16)
    (x3 : Vec Ideal S1x512x1024 .bf16) (x4 : Vec Ideal S1x512x512 .bf16)

/-- The heads 0 and 1, over what is read of them. -/
theorem piece0 (a : Fin 512) (b : Fin 128) (R J : Fin 512) (hR : R.val = 0 + a.val) (hJ : J.val = 128 * 0 + b.val) :
    two (head (View.ld (Val := Elt Ideal) x0 r0_0) (View.ld (Val := Elt Ideal) x1 r0_1) (View.ld (Val := Elt Ideal) x3 r0_2) (View.ld (Val := Elt Ideal) x2 r0_3) (View.ld (Val := Elt Ideal) x4 r0_4))
      (head (View.ld (Val := Elt Ideal) x0 r0_5) (View.ld (Val := Elt Ideal) x1 r0_6) (View.ld (Val := Elt Ideal) x3 r0_7) (View.ld (Val := Elt Ideal) x2 r0_3) (View.ld (Val := Elt Ideal) x4 r0_4)) (ix2 a b) = blkAt x0 x1 x2 x3 x4 R J := by
  apply pair_blk x0 x1 x2 x3 x4 0 (by omega) (View.ld (Val := Elt Ideal) x0 r0_0) (View.ld (Val := Elt Ideal) x0 r0_5)
    (View.ld (Val := Elt Ideal) x1 r0_1) (View.ld (Val := Elt Ideal) x1 r0_6) (View.ld (Val := Elt Ideal) x3 r0_2) (View.ld (Val := Elt Ideal) x3 r0_7) (View.ld (Val := Elt Ideal) x2 r0_3) (View.ld (Val := Elt Ideal) x4 r0_4) a b R J hR hJ
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x2 _ _ r d _ _ (by simp) (by simp)
  · intro r d; exact at3 x4 _ _ r d _ _ (by simp) (by simp) (by simp)

/-- The heads 2 and 3, over what is read of them. -/
theorem piece1 (a : Fin 512) (b : Fin 128) (R J : Fin 512) (hR : R.val = 0 + a.val) (hJ : J.val = 128 * 1 + b.val) :
    two (head (View.ld (Val := Elt Ideal) x0 r0_9) (View.ld (Val := Elt Ideal) x1 r0_10) (View.ld (Val := Elt Ideal) x3 r0_11) (View.ld (Val := Elt Ideal) x2 r0_12) (View.ld (Val := Elt Ideal) x4 r0_13))
      (head (View.ld (Val := Elt Ideal) x0 r0_14) (View.ld (Val := Elt Ideal) x1 r0_15) (View.ld (Val := Elt Ideal) x3 r0_16) (View.ld (Val := Elt Ideal) x2 r0_12) (View.ld (Val := Elt Ideal) x4 r0_13)) (ix2 a b) = blkAt x0 x1 x2 x3 x4 R J := by
  apply pair_blk x0 x1 x2 x3 x4 1 (by omega) (View.ld (Val := Elt Ideal) x0 r0_9) (View.ld (Val := Elt Ideal) x0 r0_14)
    (View.ld (Val := Elt Ideal) x1 r0_10) (View.ld (Val := Elt Ideal) x1 r0_15) (View.ld (Val := Elt Ideal) x3 r0_11) (View.ld (Val := Elt Ideal) x3 r0_16) (View.ld (Val := Elt Ideal) x2 r0_12) (View.ld (Val := Elt Ideal) x4 r0_13) a b R J hR hJ
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x2 _ _ r d _ _ (by simp) (by simp)
  · intro r d; exact at3 x4 _ _ r d _ _ (by simp) (by simp) (by simp)

/-- The heads 4 and 5, over what is read of them. -/
theorem piece2 (a : Fin 512) (b : Fin 128) (R J : Fin 512) (hR : R.val = 0 + a.val) (hJ : J.val = 128 * 2 + b.val) :
    two (head (View.ld (Val := Elt Ideal) x0 r0_18) (View.ld (Val := Elt Ideal) x1 r0_19) (View.ld (Val := Elt Ideal) x3 r0_20) (View.ld (Val := Elt Ideal) x2 r0_21) (View.ld (Val := Elt Ideal) x4 r0_22))
      (head (View.ld (Val := Elt Ideal) x0 r0_23) (View.ld (Val := Elt Ideal) x1 r0_24) (View.ld (Val := Elt Ideal) x3 r0_25) (View.ld (Val := Elt Ideal) x2 r0_21) (View.ld (Val := Elt Ideal) x4 r0_22)) (ix2 a b) = blkAt x0 x1 x2 x3 x4 R J := by
  apply pair_blk x0 x1 x2 x3 x4 2 (by omega) (View.ld (Val := Elt Ideal) x0 r0_18) (View.ld (Val := Elt Ideal) x0 r0_23)
    (View.ld (Val := Elt Ideal) x1 r0_19) (View.ld (Val := Elt Ideal) x1 r0_24) (View.ld (Val := Elt Ideal) x3 r0_20) (View.ld (Val := Elt Ideal) x3 r0_25) (View.ld (Val := Elt Ideal) x2 r0_21) (View.ld (Val := Elt Ideal) x4 r0_22) a b R J hR hJ
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x2 _ _ r d _ _ (by simp) (by simp)
  · intro r d; exact at3 x4 _ _ r d _ _ (by simp) (by simp) (by simp)

/-- The heads 6 and 7, over what is read of them. -/
theorem piece3 (a : Fin 512) (b : Fin 128) (R J : Fin 512) (hR : R.val = 0 + a.val) (hJ : J.val = 128 * 3 + b.val) :
    two (head (View.ld (Val := Elt Ideal) x0 r0_27) (View.ld (Val := Elt Ideal) x1 r0_28) (View.ld (Val := Elt Ideal) x3 r0_29) (View.ld (Val := Elt Ideal) x2 r0_30) (View.ld (Val := Elt Ideal) x4 r0_31))
      (head (View.ld (Val := Elt Ideal) x0 r0_32) (View.ld (Val := Elt Ideal) x1 r0_33) (View.ld (Val := Elt Ideal) x3 r0_34) (View.ld (Val := Elt Ideal) x2 r0_30) (View.ld (Val := Elt Ideal) x4 r0_31)) (ix2 a b) = blkAt x0 x1 x2 x3 x4 R J := by
  apply pair_blk x0 x1 x2 x3 x4 3 (by omega) (View.ld (Val := Elt Ideal) x0 r0_27) (View.ld (Val := Elt Ideal) x0 r0_32)
    (View.ld (Val := Elt Ideal) x1 r0_28) (View.ld (Val := Elt Ideal) x1 r0_33) (View.ld (Val := Elt Ideal) x3 r0_29) (View.ld (Val := Elt Ideal) x3 r0_34) (View.ld (Val := Elt Ideal) x2 r0_30) (View.ld (Val := Elt Ideal) x4 r0_31) a b R J hR hJ
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x0 _ _ r d _ _ (by simp) (by simp)
  · intro r d; exact at2 x1 _ _ r d _ _ (by simp) (by simp)
  · intro r d; exact at3 x3 _ _ r d _ _ (by simp) (by simp) (by simp)
  · intro r d; exact at2 x2 _ _ r d _ _ (by simp) (by simp)
  · intro r d; exact at3 x4 _ _ r d _ _ (by simp) (by simp) (by simp)

end

end Cert.KernelIdeal.Attn

end
-- ==== Proof.AttnKernel.lean ====
/- Hand-written, untrusted: what the kernel's attention leaves in its array. -/
module

public import proofs.«01_k».proof.Proof.Gen.KernelIdeal.Value
public import proofs.«01_k».proof.Proof.AttnPairs
public import proofs.«01_k».proof.Proof.AttnAt
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen

section
variable (x0 : Vec Ideal S512x1024 .bf16) (x1 : Vec Ideal S2048x1024 .bf16) (x2 : Vec Ideal S2048x512 .bf16)
    (x3 : Vec Ideal S1x512x1024 .bf16) (x4 : Vec Ideal S1x512x512 .bf16)

/-- The block the body leaves. -/
theorem out_at (y : S512x512.Idx) : out0_5 (F := Ideal) x0 x1 x2 x3 x4 y = blkAt x0 x1 x2 x3 x4 (y 0) (y 1) := by
  have e68 : k0_pay68 (F := Ideal) x0 x1 x2 x3 x4 = k0_pay2 := rfl
  canon_tiles x h
  · obtain ⟨a, b, rfl⟩ : ∃ (a : Fin 512) (b : Fin 128), x = ix2 a b := ⟨x 0, x 1, eq_ix2 x⟩
    rw [e68, tile3]
    refine piece3 x0 x1 x2 x3 x4 a b (y 0) (y 1) ?_ ?_
    · have e : ((ix2 a b : S512x128.Idx) 0).val = a.val := rfl
      omega
    · have e : ((ix2 a b : S512x128.Idx) 1).val = b.val := rfl
      omega
  · obtain ⟨a, b, rfl⟩ : ∃ (a : Fin 512) (b : Fin 128), x = ix2 a b := ⟨x 0, x 1, eq_ix2 x⟩
    rw [e68, tile2]
    refine piece2 x0 x1 x2 x3 x4 a b (y 0) (y 1) ?_ ?_
    · have e : ((ix2 a b : S512x128.Idx) 0).val = a.val := rfl
      omega
    · have e : ((ix2 a b : S512x128.Idx) 1).val = b.val := rfl
      omega
  · obtain ⟨a, b, rfl⟩ : ∃ (a : Fin 512) (b : Fin 128), x = ix2 a b := ⟨x 0, x 1, eq_ix2 x⟩
    rw [e68, tile1]
    refine piece1 x0 x1 x2 x3 x4 a b (y 0) (y 1) ?_ ?_
    · have e : ((ix2 a b : S512x128.Idx) 0).val = a.val := rfl
      omega
    · have e : ((ix2 a b : S512x128.Idx) 1).val = b.val := rfl
      omega
  · obtain ⟨a, b, rfl⟩ : ∃ (a : Fin 512) (b : Fin 128), x = ix2 a b := ⟨x 0, x 1, eq_ix2 x⟩
    rw [e68, tile0]
    refine piece0 x0 x1 x2 x3 x4 a b (y 0) (y 1) ?_ ?_
    · have e : ((ix2 a b : S512x128.Idx) 0).val = a.val := rfl
      omega
    · have e : ((ix2 a b : S512x128.Idx) 1).val = b.val := rfl
      omega
end

variable (m : (ℓ : Loc nD τ sig) → Buf (Elt Ideal) ℓ)

theorem idx_val : ∀ t : Fin cfg0.N, win0_0.index t = ![8 + t.val, 0] ∧ win0_1.index t = ![2 + t.val / 4, 0]
    ∧ win0_2.index t = ![2 + t.val / 4, 0] ∧ win0_3.index t = ![t.val / 4, 0, 0] ∧ win0_4.index t = ![t.val / 4, 0, 0]
    ∧ win0_5.index t = ![t.val, 0] :=
  (by decide +kernel : ∀ t : Fin grid0.N, _)

theorem lt_N (t : Fin cfg0.N) : t.val < 8 := t.isLt

/-- The token of a block's row. -/
def row (t : Fin cfg0.N) (r : Fin 512) : Fin 4096 := ⟨t.val * 512 + r.val, by have := lt_N t; omega⟩

/-- The padding value. -/
theorem pad_zero : FloatOps.sitofp (F := Ideal) FTy.bf16 0#32 = (0 : EReal) := by
  show (((0#32 : BitVec 32).toInt : ℝ) : EReal) = 0
  simp

/-- An array of rows padded in its slots. -/
theorem pad3_at (x : FVec Ideal S8192x8x96 .bf16) (R : Fin 8192) (h : Fin 8) (d : Fin 128) :
    pad S8192x8x128 ![0, 0, 0] ![0, 0, 32] ![0, 0, 0] x (sitofp (F := Ideal) .bf16 (constantI S_ 32 0#32)) pads_S8192x8x96_S8192x8x128_000_000_0320 h_S_ (ix3 R h d)
      = if e : d.val < 96 then x (ix3 R h ⟨d.val, e⟩) else (0 : EReal) := by
  pointwise
  rw [pad_zero]

/-- The cache padded in its slots. -/
theorem pad4_at (x : FVec Ideal S2x512x8x96 .bf16) (b : Fin 2) (k : Fin 512) (h : Fin 8) (d : Fin 128) :
    pad S2x512x8x128 ![0, 0, 0, 0] ![0, 0, 0, 32] ![0, 0, 0, 0] x (sitofp (F := Ideal) .bf16 (constantI S_ 32 0#32)) pads_S2x512x8x96_S2x512x8x128_000_000_000_0320 h_S_ (ix4 b k h d)
      = if e : d.val < 96 then x (ix4 b k h ⟨d.val, e⟩) else (0 : EReal) := by
  pointwise
  rw [pad_zero]

/-- The padded queries as the call finds them. -/
theorem v1_at (c : Dev nD) (R : Fin 8192) (h : Fin 8) (d : Fin 128) (J : Fin 1024) (hJ : J.val = h.val * 128 + d.val) :
    (V m c main_v1 : FVec Ideal S8192x1024 .bf16) (ix2 R J)
      = if e : d.val < 96 then (m ((c : Thread nD τ).loc main_arg0) : FVec Ideal S8192x8x96 .bf16) (ix3 R h ⟨d.val, e⟩) else (0 : EReal) := by
  show StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil, List.append_nil, List.cons_append, List.nil_append]
  entry_read
  pointwise
  have e1 : (⟨J.val / 128, by omega⟩ : Fin 8) = h := Fin.ext (by simp only; omega)
  have e2 : (⟨J.val % 128, by omega⟩ : Fin 128) = d := Fin.ext (by simp only; omega)
  rw [e1, e2]
  exact pad3_at (m ((c : Thread nD τ).loc main_arg0)) R h d

/-- The padded keys as the call finds them. -/
theorem v3_at (c : Dev nD) (R : Fin 8192) (h : Fin 8) (d : Fin 128) (J : Fin 1024) (hJ : J.val = h.val * 128 + d.val) :
    (V m c main_v3 : FVec Ideal S8192x1024 .bf16) (ix2 R J)
      = if e : d.val < 96 then (m ((c : Thread nD τ).loc main_arg1) : FVec Ideal S8192x8x96 .bf16) (ix3 R h ⟨d.val, e⟩) else (0 : EReal) := by
  show StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil, List.append_nil, List.cons_append, List.nil_append]
  entry_read
  pointwise
  have e1 : (⟨J.val / 128, by omega⟩ : Fin 8) = h := Fin.ext (by simp only; omega)
  have e2 : (⟨J.val % 128, by omega⟩ : Fin 128) = d := Fin.ext (by simp only; omega)
  rw [e1, e2]
  exact pad3_at (m ((c : Thread nD τ).loc main_arg1)) R h d

/-- The padded cached keys as the call finds them. -/
theorem v5_at (c : Dev nD) (b : Fin 2) (k : Fin 512) (h : Fin 8) (d : Fin 128) (J : Fin 1024) (hJ : J.val = h.val * 128 + d.val) :
    (V m c main_v5 : FVec Ideal S2x512x1024 .bf16) (ix3 b k J)
      = if e : d.val < 96 then (m ((c : Thread nD τ).loc main_arg3) : FVec Ideal S2x512x8x96 .bf16) (ix4 b k h ⟨d.val, e⟩) else (0 : EReal) := by
  show StableHlo.after [hostOps0, hostOps0_1, hostOps0_2, hostOps0_3, hostOps0_4, hostOps0_5, hostOps0_6].flatten _ _ _ = _
  simp only [hostOps0, hostOps0_1, hostOps0_2, hostOps0_3, hostOps0_4, hostOps0_5, hostOps0_6, List.flatten_cons, List.flatten_nil, List.append_nil, List.cons_append, List.nil_append]
  entry_read
  pointwise
  have e1 : (⟨J.val / 128, by omega⟩ : Fin 8) = h := Fin.ext (by simp only; omega)
  have e2 : (⟨J.val % 128, by omega⟩ : Fin 128) = d := Fin.ext (by simp only; omega)
  rw [e1, e2]
  exact pad4_at (m ((c : Thread nD τ).loc main_arg3)) b k h d

/-- The queries of a block. -/
theorem q_at (c : Dev nD) (t : Fin cfg0.N) (r : Fin 512) (h : Fin 8) (d : Fin 128) (J : Fin 1024) (hJ : J.val = h.val * 128 + d.val) :
    (iblk m c 0 t : FVec Ideal S512x1024 .bf16) (ix2 r J)
      = if e : d.val < 96 then (m ((c : Thread nD τ).loc main_arg0) : FVec Ideal S8192x8x96 .bf16) (ix3 ⟨4096 + (row t r).val, by omega⟩ h ⟨d.val, e⟩) else (0 : EReal) := by
  refine Eq.trans ?_ (v1_at m c _ h d J hJ)
  blk_ext [iblk, row, idx_val t]

/-- The keys of a block. -/
theorem k_at (c : Dev nD) (t : Fin cfg0.N) (r : Fin 512) (x : Fin 2048) (h : Fin 8) (d : Fin 128) (J : Fin 1024) (hJ : J.val = h.val * 128 + d.val) :
    (iblk m c 1 t : FVec Ideal S2048x1024 .bf16) (ix2 x J)
      = if e : d.val < 96 then (m ((c : Thread nD τ).loc main_arg1) : FVec Ideal S8192x8x96 .bf16) (ix3 ⟨4096 + ((row t r).val / 2048 * 2048 + x.val), by omega⟩ h ⟨d.val, e⟩) else (0 : EReal) := by
  refine Eq.trans ?_ (v3_at m c _ h d J hJ)
  have := lt_N t
  have hb : (t.val * 512 + r.val) / 2048 = t.val / 4 := by omega
  blk_ext [iblk, row, idx_val t]
  all_goals omega

/-- The cached keys of a block. -/
theorem kc_at (c : Dev nD) (t : Fin cfg0.N) (r : Fin 512) (x : Fin 512) (h : Fin 8) (d : Fin 128) (J : Fin 1024) (hJ : J.val = h.val * 128 + d.val) :
    (iblk m c 3 t : FVec Ideal S1x512x1024 .bf16) (ix3 0 x J)
      = if e : d.val < 96 then (m ((c : Thread nD τ).loc main_arg3) : FVec Ideal S2x512x8x96 .bf16) (ix4 ⟨(row t r).val / 2048, by omega⟩ x h ⟨d.val, e⟩) else (0 : EReal) := by
  refine Eq.trans ?_ (v5_at m c _ x h d J hJ)
  have := lt_N t
  have hb : (t.val * 512 + r.val) / 2048 = t.val / 4 := by omega
  blk_ext [iblk, row, idx_val t]
  all_goals omega

/-- The values of a block. -/
theorem v_at (c : Dev nD) (t : Fin cfg0.N) (r : Fin 512) (x : Fin 2048) (j : Fin 512) :
    (iblk m c 2 t : FVec Ideal S2048x512 .bf16) (ix2 x j)
      = (m ((c : Thread nD τ).loc main_arg2) : FVec Ideal S8192x512 .bf16) (ix2 ⟨4096 + ((row t r).val / 2048 * 2048 + x.val), by omega⟩ j) := by
  have := lt_N t
  have hb : (t.val * 512 + r.val) / 2048 = t.val / 4 := by omega
  blk_ext [iblk, V_main_arg2 m c, row, idx_val t]
  all_goals omega

/-- The cached values of a block. -/
theorem vc_at (c : Dev nD) (t : Fin cfg0.N) (r : Fin 512) (x : Fin 512) (j : Fin 512) :
    (iblk m c 4 t : FVec Ideal S1x512x512 .bf16) (ix3 0 x j)
      = (m ((c : Thread nD τ).loc main_arg4) : FVec Ideal S2x512x512 .bf16) (ix3 ⟨(row t r).val / 2048, by omega⟩ x j) := by
  have := lt_N t
  have hb : (t.val * 512 + r.val) / 2048 = t.val / 4 := by omega
  blk_ext [iblk, V_main_arg4 m c, row, idx_val t]
  all_goals omega

/-- A block's attention is the arguments'. -/
theorem blk_eq (c : Dev nD) (t : Fin cfg0.N) (r j : Fin 512) :
    blkAt (iblk m c 0 t) (iblk m c 1 t) (iblk m c 2 t) (iblk m c 3 t) (iblk m c 4 t) r j
      = AttnRows.halvesAt (m ((c : Thread nD τ).loc main_arg0)) (m ((c : Thread nD τ).loc main_arg1)) (m ((c : Thread nD τ).loc main_arg2))
        (m ((c : Thread nD τ).loc main_arg3)) (m ((c : Thread nD τ).loc main_arg4)) (row t r) j := by
  unfold blkAt AttnRows.halvesAt
  congr 1
  · funext x
    exact AttnRows.sum_slot _ _ _ _ (fun d => q_at m c t r ⟨j.val / 64, by omega⟩ d _ rfl) (fun d => k_at m c t r x ⟨j.val / 64, by omega⟩ d _ rfl)
  · funext x
    exact AttnRows.sum_slot _ _ _ _ (fun d => q_at m c t r ⟨j.val / 64, by omega⟩ d _ rfl) (fun d => kc_at m c t r x ⟨j.val / 64, by omega⟩ d _ rfl)
  · funext x; exact v_at m c t r x j
  · funext x; exact vc_at m c t r x j

/-- What the call leaves in its result array. -/
theorem final (c : Dev nD) : (dats m 0 c).arrAt 5 (cfgs 0).N
    = fun i : S4096x512.Idx => AttnRows.halvesAt (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  have ey : y = (ix2 (y 0) (y 1) : S512x512.Idx) := eq_ix2 y
  rw [ey]
  refine (out_at _ _ _ _ _ _).trans ?_
  refine (blk_eq m c t (y 0) (y 1)).trans ?_
  have hr : (((View.whole main_v6).slice (win0_5.rect t)).emb (ix2 (y 0) (y 1) : S512x512.Idx) 0 : Fin 4096) = row t (y 0) := by
    apply Fin.ext; simp only [row]; blk_simp [idx_val t]
  have hj : (((View.whole main_v6).slice (win0_5.rect t)).emb (ix2 (y 0) (y 1) : S512x512.Idx) 1 : Fin 512) = y 1 := by
    apply Fin.ext; blk_simp [idx_val t]
  exact congrArg₂ (AttnRows.halvesAt (m ((c : Thread nD τ).loc main_arg0)) (m ((c : Thread nD τ).loc main_arg1)) (m ((c : Thread nD τ).loc main_arg2))
        (m ((c : Thread nD τ).loc main_arg3)) (m ((c : Thread nD τ).loc main_arg4))) hr.symm hj.symm

end Cert.KernelIdeal.Attn

end
-- ==== Proof.AttnClaim.lean ====
/- Hand-written, untrusted: the two programs of the attention leave the same result where queries and keys are finite. -/
module

public import proofs.«01_k».proof.Defs
public import proofs.«01_k».proof.Proof.AttnRef
public import proofs.«01_k».proof.Proof.AttnKernel
public import proofs.«01_k».proof.Proof.Gen.KernelIdeal.Value
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Attn

open Cert.Pre_finite

/-- The shape relations the precondition's function takes. -/
theorem pre_facts : Cert.Pre_finite.Facts where
  shapeCasts_S2x512x8x96_S1024x8x96 := by decide +kernel
  concatenates_S8192x8x96_S8192x8x96_S1024x8x96_S17408x8x96_d0 := by decide +kernel
  bcast_S_S17408x8x96 := by decide +kernel

/-- An ideal float whose magnitude compares below infinity is a real. -/
theorem real_of_cmp (x : EReal)
    (h : (FloatOps.cmpf .olt (FloatOps.absf (x : Ideal .bf16)) (FloatOps.ofBits .bf16 0x7F80#16 : Ideal .bf16) : BitVec 1) = 1#1) :
    ∃ a : ℝ, x = (a : EReal) := by
  have e : (FloatOps.ofBits .bf16 0x7F80#16 : Ideal .bf16) = (⊤ : EReal) := by
    show Ideal.ofBits .bf16 0x7F80#16 = ⊤
    simp [Ideal.ofBits, Ideal.ieee]
  rw [e] at h
  induction x with
  | coe a => exact ⟨a, rfl⟩
  | bot => exact absurd h (by simp [FloatOps.cmpf, FloatOps.absf, Ideal.cmp])
  | top => exact absurd h (by simp [FloatOps.cmpf, FloatOps.absf, Ideal.cmp])

section
variable [Cert.Pre_finite.Facts]
variable (q k : FVec Ideal S8192x8x96 .bf16) (v : FVec Ideal S8192x512 .bf16)
    (kc : FVec Ideal S2x512x8x96 .bf16) (vc : FVec Ideal S2x512x512 .bf16)

/-- The precondition's arrays in a row. -/
def rows : FVec Ideal S17408x8x96 .bf16 :=
  concatenate S17408x8x96 0 [⟨S8192x8x96, q⟩, ⟨S8192x8x96, k⟩, ⟨S1024x8x96, shapeCast S1024x8x96 kc Facts.shapeCasts_S2x512x8x96_S1024x8x96⟩] Facts.concatenates_S8192x8x96_S8192x8x96_S1024x8x96_S17408x8x96_d0

theorem rows_real (h : Cert.Pre_finite.fn (F := Ideal) q k v kc vc = fun _ => 1#1) (i : S17408x8x96.Idx) :
    ∃ a : ℝ, rows q k kc i = (a : EReal) :=
  real_of_cmp _ (congrFun h i)

theorem rows_q (R : Fin 8192) (h : Fin 8) (d : Fin 96) : rows q k kc (ix3 ⟨R.val, by omega⟩ h d) = q (ix3 R h d) := by
  pointwise [rows]

theorem rows_k (R : Fin 8192) (h : Fin 8) (d : Fin 96) : rows q k kc (ix3 ⟨8192 + R.val, by omega⟩ h d) = k (ix3 R h d) := by
  pointwise [rows]

theorem rows_kc (b : Fin 2) (x : Fin 512) (h : Fin 8) (d : Fin 96) :
    rows q k kc (ix3 ⟨16384 + (b.val * 512 + x.val), by omega⟩ h d) = kc (ix4 b x h d) := by
  pointwise [rows]
  rw [dif_neg (by omega), dif_neg (by omega)]
  have e1 : (⟨(16384 + (b.val * 512 + x.val) - 8192 - 8192) / 512, by omega⟩ : Fin 2) = b := Fin.ext (by simp only; omega)
  have e2 : (⟨(16384 + (b.val * 512 + x.val) - 8192 - 8192) % 512, by omega⟩ : Fin 512) = x := Fin.ext (by simp only; omega)
  rw [e1, e2]

end

theorem algebraic (hPre : Cert.Pre_finite.Facts) : Cert.algebraic_KernelIdeal_ReferenceIdeal_pre_finite := by
  pair_intro
  · run_from Cert.KernelIdeal.Gen.run_main m g
    all_goals first
      | exact Cert.KernelIdeal.Gen.V_main_arg0 m c
      | exact Cert.KernelIdeal.Gen.V_main_arg1 m c
      | exact Cert.KernelIdeal.Gen.V_main_arg3 m c
  · run_from Cert.ReferenceIdeal.Value.run m' g'
    obtain ⟨a0, a1, a2, a3, a4⟩ := hagree c
    rw [Cert.KernelIdeal.Attn.final m c]
    funext i
    obtain ⟨r, j, rfl⟩ : ∃ (r : Fin 4096) (j : Fin 512), i = ix2 r j := ⟨i 0, i 1, eq_ix2 i⟩
    refine (Cert.ReferenceIdeal.Attn.res_at m' c r j).trans ?_
    rw [a0, a1, a2, a3, a4]
    have hr := rows_real _ _ _ _ _ (hpre c)
    refine (AttnRows.halvesAt_eq _ _ _ _ _ r j (fun i => ?_) (fun i => ?_) (fun i => ?_)).symm
    · obtain ⟨R, h, d, rfl⟩ : ∃ (R : Fin 8192) (h : Fin 8) (d : Fin 96), i = ix3 R h d := ⟨i 0, i 1, i 2, eq_ix3 i⟩
      obtain ⟨a, ha⟩ := hr _
      exact ⟨a, (rows_q (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) R h d).symm.trans ha⟩
    · obtain ⟨R, h, d, rfl⟩ : ∃ (R : Fin 8192) (h : Fin 8) (d : Fin 96), i = ix3 R h d := ⟨i 0, i 1, i 2, eq_ix3 i⟩
      obtain ⟨a, ha⟩ := hr _
      exact ⟨a, (rows_k (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) R h d).symm.trans ha⟩
    · obtain ⟨b, x, h, d, rfl⟩ : ∃ (b : Fin 2) (x : Fin 512) (h : Fin 8) (d : Fin 96), i = ix4 b x h d := ⟨i 0, i 1, i 2, i 3, eq_ix4 i⟩
      obtain ⟨a, ha⟩ := hr _
      exact ⟨a, (rows_kc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) b x h d).symm.trans ha⟩

end Cert.Attn

end
-- ==== Proof.Rows.lean ====
/- Hand-written, untrusted: the layer's row formulas, over the extended reals and over no program: the modulated norm,
   the gate, the merge of the three mixers, and where a token's row and its group sit. -/
module

public import Idealize.ShloMosaic.Lib.Pointwise

@[expose] public section

set_option maxRecDepth 16384

noncomputable section

open Idealize.ShloMosaic
open scoped BigOperators

namespace Cert.Rows

/-- A row over its root mean square. -/
def rms (h g : Fin 1024 → EReal) (k : Fin 1024) : EReal :=
  h k * Ideal.rsqrt (Ideal.div (∑ x, h x * h x) (Ideal.ofBits .f32 0x44800000#32) + Ideal.ofBits .f32 0x358637BD#32) * g k

/-- The normed row under a group's scale and shift. -/
def nrm (h g sc s : Fin 1024 → EReal) (k : Fin 1024) : EReal :=
  rms h g k * (1 + sc k) + s k

/-- The logistic function, by its quotient. -/
def sigm (x : EReal) : EReal := Ideal.div 1 (1 + Ideal.exp (-x))

/-- A row of the gated merge and the output projection: `n` the normed row, `wg` the gates' columns of the three
    branches one after the other. -/
def merge (h n g1 : Fin 1024 → EReal) (wg : Fin 1024 → Fin 3072 → EReal) (z : Fin 256 → EReal) (a : Fin 512 → EReal)
    (f : Fin 256 → EReal) (wa : Fin 256 → Fin 1024 → EReal) (wb : Fin 512 → Fin 1024 → EReal)
    (wc : Fin 256 → Fin 1024 → EReal) (wo : Fin 1024 → Fin 1024 → EReal) (j : Fin 1024) : EReal :=
  h j + g1 j * ∑ x : Fin 1024,
    (sigm (∑ k, n k * wg k ⟨x.val, by omega⟩) * (∑ k, z k * wa k x)
      + sigm (∑ k, n k * wg k ⟨1024 + x.val, by omega⟩) * (∑ k, a k * wb k x)
      + sigm (∑ k, n k * wg k ⟨2048 + x.val, by omega⟩) * (∑ k, f k * wc k x)) * wo x j

/-- The group whose modulation a token's row is under: the prompts' all one, then one for each sampled sequence. -/
def grp (r : Fin 8192) : Fin 3 := if r.val < 4096 then 0 else ⟨1 + (r.val - 4096) / 2048, by omega⟩

/-- A token's row of the hidden state: the prompts' tokens first. -/
def hrow (hp : FVec Ideal ⟨3, ![16, 256, 1024]⟩ .f32) (hs : FVec Ideal ⟨3, ![2, 2048, 1024]⟩ .f32)
    (r : Fin 8192) : Fin 1024 → EReal := fun k =>
  if r.val < 4096 then hp (ix3 ⟨r.val / 256 % 16, by omega⟩ ⟨r.val % 256, by omega⟩ k)
  else hs (ix3 ⟨(r.val - 4096) / 2048, by omega⟩ ⟨(r.val - 4096) % 2048, by omega⟩ k)

theorem merge_congr {h h' n n' g1 g1' : Fin 1024 → EReal} {wg wg' : Fin 1024 → Fin 3072 → EReal} {z z' : Fin 256 → EReal}
    {a a' : Fin 512 → EReal} {f f' : Fin 256 → EReal} {wa wa' : Fin 256 → Fin 1024 → EReal}
    {wb wb' : Fin 512 → Fin 1024 → EReal} {wc wc' : Fin 256 → Fin 1024 → EReal} {wo wo' : Fin 1024 → Fin 1024 → EReal}
    {j j' : Fin 1024} (eh : ∀ k, h k = h' k) (en : ∀ k, n k = n' k) (eg : ∀ k, g1 k = g1' k) (ewg : ∀ k x, wg k x = wg' k x)
    (ez : ∀ k, z k = z' k) (ea : ∀ k, a k = a' k) (ef : ∀ k, f k = f' k) (ewa : ∀ k x, wa k x = wa' k x)
    (ewb : ∀ k x, wb k x = wb' k x) (ewc : ∀ k x, wc k x = wc' k x) (ewo : ∀ k x, wo k x = wo' k x) (ej : j = j') :
    merge h n g1 wg z a f wa wb wc wo j = merge h' n' g1' wg' z' a' f' wa' wb' wc' wo' j' := by
  simp only [merge, eh, en, eg, ewg, ez, ea, ef, ewa, ewb, ewc, ewo, ej]

theorem nrm_congr {h h' g g' sc sc' s s' : Fin 1024 → EReal} (eh : ∀ k, h k = h' k) (eg : ∀ k, g k = g' k)
    (esc : ∀ k, sc k = sc' k) (es : ∀ k, s k = s' k) (k : Fin 1024) : nrm h g sc s k = nrm h' g' sc' s' k := by
  simp only [nrm, rms, eh, eg, esc, es]

/-- The gated merge at a token and a column, over the call's arguments. -/
def mixAt (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨2, ![3, 1024]⟩ .f32)
    (w : FVec Ideal ⟨2, ![1024, 4512]⟩ .f32) (z : FVec Ideal ⟨2, ![8192, 256]⟩ .bf16)
    (a : FVec Ideal ⟨2, ![8192, 512]⟩ .bf16) (f : FVec Ideal ⟨2, ![8192, 256]⟩ .bf16)
    (wa : FVec Ideal ⟨2, ![256, 1024]⟩ .f32) (wb : FVec Ideal ⟨2, ![512, 1024]⟩ .f32)
    (wc : FVec Ideal ⟨2, ![256, 1024]⟩ .f32) (wo : FVec Ideal ⟨2, ![1024, 1024]⟩ .f32)
    (r : Fin 8192) (j : Fin 1024) : EReal :=
  merge (hrow hp hs r)
    (nrm (hrow hp hs r) (fun k => ng (ix2 1 k)) (fun k => mods (ix3 (grp r) 4 k)) (fun k => mods (ix3 (grp r) 3 k)))
    (fun k => mods (ix3 (grp r) 5 k)) (fun k x => w (ix2 k ⟨1440 + x.val, by omega⟩))
    (fun k => z (ix2 r k)) (fun k => a (ix2 r k)) (fun k => f (ix2 r k))
    (fun k x => wa (ix2 k x)) (fun k x => wb (ix2 k x)) (fun k x => wc (ix2 k x)) (fun k x => wo (ix2 k x)) j

/-- A hidden unit of the gated feed-forward layer: `g` and `u` its two columns. -/
def unit (n g u : Fin 1024 → EReal) : EReal :=
  (∑ k, n k * g k) * sigm (∑ k, n k * g k) * ∑ k, n k * u k

/-- A row of the last half step and the final norm: `s` the feed-forward layer's sum. -/
def tail (h g2 s fg : Fin 1024 → EReal) (j : Fin 1024) : EReal :=
  rms (fun k => h k + Ideal.ofBits .f32 0x3F000000#32 * g2 k * s k) fg j

theorem unit_congr {n n' g g' u u' : Fin 1024 → EReal} (en : ∀ k, n k = n' k) (eg : ∀ k, g k = g' k) (eu : ∀ k, u k = u' k) :
    unit n g u = unit n' g' u' := by
  simp only [unit, en, eg, eu]

theorem tail_congr {h h' g2 g2' s s' fg fg' : Fin 1024 → EReal} {j j' : Fin 1024} (eh : ∀ k, h k = h' k) (eg : ∀ k, g2 k = g2' k)
    (es : ∀ k, s k = s' k) (ef : ∀ k, fg k = fg' k) (ej : j = j') : tail h g2 s fg j = tail h' g2' s' fg' j' := by
  simp only [tail, rms, eh, eg, es, ef, ej]

/-- The last half step's normed row at a token. -/
def ffnN (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨3, ![2, 3, 1024]⟩ .f32) (r : Fin 8192) : Fin 1024 → EReal :=
  nrm (hrow hp hs r) (fun k => ng (ix3 1 2 k)) (fun k => mods (ix3 (grp r) 7 k)) (fun k => mods (ix3 (grp r) 6 k))

/-- The last half step and the final norm at a token and a column, over the call's arguments. -/
def ffnAt (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨3, ![2, 3, 1024]⟩ .f32)
    (wu : FVec Ideal ⟨4, ![2, 2, 1024, 5632]⟩ .f32) (wd : FVec Ideal ⟨4, ![2, 2, 2816, 1024]⟩ .f32)
    (fg : FVec Ideal ⟨1, ![1024]⟩ .f32) (r : Fin 8192) (j : Fin 1024) : EReal :=
  tail (hrow hp hs r) (fun k => mods (ix3 (grp r) 8 k))
    (fun j => ∑ x : Fin 2816, unit (ffnN hp hs mods ng r) (fun k => wu (ix4 1 1 k ⟨x.val, by omega⟩))
      (fun k => wu (ix4 1 1 k ⟨2816 + x.val, by omega⟩)) * wd (ix4 1 1 x j))
    (fun k => fg (ix1 k)) j

/-- A row of a half step: `s` the feed-forward layer's sum. -/
def half (h g0 s : Fin 1024 → EReal) (j : Fin 1024) : EReal :=
  h j + Ideal.ofBits .f32 0x3F000000#32 * g0 j * s j

theorem half_congr {h h' g0 g0' s s' : Fin 1024 → EReal} {j j' : Fin 1024} (eh : ∀ k, h k = h' k) (eg : ∀ k, g0 k = g0' k)
    (es : ∀ k, s k = s' k) (ej : j = j') : half h g0 s j = half h' g0' s' j' := by
  simp only [half, eh, eg, es, ej]

/-- The first half step's normed row at a token. -/
def halfN (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨3, ![2, 3, 1024]⟩ .f32) (r : Fin 8192) : Fin 1024 → EReal :=
  nrm (hrow hp hs r) (fun k => ng (ix3 0 0 k)) (fun k => mods (ix3 (grp r) 1 k)) (fun k => mods (ix3 (grp r) 0 k))

/-- The first half step at a token and a column, over the call's arguments. -/
def halfAt (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨3, ![2, 3, 1024]⟩ .f32)
    (wu : FVec Ideal ⟨4, ![2, 2, 1024, 5632]⟩ .f32) (wd : FVec Ideal ⟨4, ![2, 2, 2816, 1024]⟩ .f32)
    (r : Fin 8192) (j : Fin 1024) : EReal :=
  half (hrow hp hs r) (fun k => mods (ix3 (grp r) 2 k))
    (fun j => ∑ x : Fin 2816, unit (halfN hp hs mods ng r) (fun k => wu (ix4 0 0 k ⟨x.val, by omega⟩))
      (fun k => wu (ix4 0 0 k ⟨2816 + x.val, by omega⟩)) * wd (ix4 0 0 x j)) j

end Cert.Rows

end
-- ==== Proof.FfnRef.lean ====
/- Hand-written, untrusted: what the last half step and the final norm's reference leaves, at a token and a column. -/
module

public import proofs.«01_k».proof.Proof.Gen.Reference2Ideal.Run
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Reference2Ideal.Ffn

open Cert.Reference2Ideal Cert.Reference2Ideal.Gen

def nP (h : FVec Ideal S16x256x1024 .f32) (mods : FVec Ideal S3x9x1024 .f32) (ng : FVec Ideal S2x3x1024 .f32) : FVec Ideal S16x256x1024 .f32 :=
  addf (mulf (mulf (mulf h (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf h h) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1x1024 ![1, 2, 0] ng slices_S2x3x1024_S1x1x1024_1_2_0) shapeCasts_S1x1x1024_S1024)))) (broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 7, 0] (extractStridedSlice S1x9x1024 ![0, 0, 0] mods slices_S3x9x1024_S1x9x1024_0_0_0) slices_S1x9x1024_S1x1x1024_0_7_0) shapeCasts_S1x1x1024_S1x1024))))) (broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 6, 0] (extractStridedSlice S1x9x1024 ![0, 0, 0] mods slices_S3x9x1024_S1x9x1024_0_0_0) slices_S1x9x1024_S1x1x1024_0_6_0) shapeCasts_S1x1x1024_S1x1024)))

def uP (n : FVec Ideal S16x256x1024 .f32) (w : FVec Ideal S2x2x1024x5632 .f32) : FVec Ideal S16x256x5632 .f32 :=
  Host.dotGeneral dot_S16x256x1024_S1024x5632_S16x256x5632_2_0_01_1_n_n none n (shapeCast _ (extractStridedSlice S1x1x1024x5632 ![1, 1, 0, 0] w slices_S2x2x1024x5632_S1x1x1024x5632_1_1_0_0) shapeCasts_S1x1x1024x5632_S1024x5632)

def yP (g : FVec Ideal S16x256x5632 .f32) (h : FVec Ideal S16x256x1024 .f32) (mods : FVec Ideal S3x9x1024 .f32) (wd : FVec Ideal S2x2x2816x1024 .f32) : FVec Ideal S16x256x1024 .f32 :=
  addf h (mulf (broadcastInDim S16x256x1024 ![0, 1, 2] bcast_S1x1x1024_S16x256x1024_0_1_2 (mulf (broadcastInDim S1x1x1024 ![] bcast_S_S1x1x1024 (constant S_ .f32 0x3F000000#32)) (broadcastInDim S1x1x1024 ![0, 2] bcast_S1x1024_S1x1x1024_0_2 (shapeCast _ (extractStridedSlice S1x1x1024 ![0, 8, 0] (extractStridedSlice S1x9x1024 ![0, 0, 0] mods slices_S3x9x1024_S1x9x1024_0_0_0) slices_S1x9x1024_S1x1x1024_0_8_0) shapeCasts_S1x1x1024_S1x1024)))) (Host.dotGeneral dot_S16x256x2816_S2816x1024_S16x256x1024_2_0_01_1_n_n none (mulf (mulf (extractStridedSlice S16x256x2816 ![0, 0, 0] g slices_S16x256x5632_S16x256x2816_0_0_0) (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf (extractStridedSlice S16x256x2816 ![0, 0, 0] g slices_S16x256x5632_S16x256x2816_0_0_0)))))) (extractStridedSlice S16x256x2816 ![0, 0, 2816] g slices_S16x256x5632_S16x256x2816_0_0_2816)) (shapeCast _ (extractStridedSlice S1x1x2816x1024 ![1, 1, 0, 0] wd slices_S2x2x2816x1024_S1x1x2816x1024_1_1_0_0) shapeCasts_S1x1x2816x1024_S2816x1024)))

def oP (y : FVec Ideal S16x256x1024 .f32) (fg : FVec Ideal S1024 .f32) : FVec Ideal S4096x1024 .f32 :=
  shapeCast _ (mulf (mulf y (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf y y) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 fg))) shapeCasts_S16x256x1024_S4096x1024

def nS (h : FVec Ideal S2x2048x1024 .f32) (mods : FVec Ideal S3x9x1024 .f32) (ng : FVec Ideal S2x3x1024 .f32) : FVec Ideal S2x2048x1024 .f32 :=
  addf (mulf (mulf (mulf h (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf h h) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ (extractStridedSlice S1x1x1024 ![1, 2, 0] ng slices_S2x3x1024_S1x1x1024_1_2_0) shapeCasts_S1x1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 7, 0] (extractStridedSlice S2x9x1024 ![1, 0, 0] mods slices_S3x9x1024_S2x9x1024_1_0_0) slices_S2x9x1024_S2x1x1024_0_7_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 6, 0] (extractStridedSlice S2x9x1024 ![1, 0, 0] mods slices_S3x9x1024_S2x9x1024_1_0_0) slices_S2x9x1024_S2x1x1024_0_6_0) shapeCasts_S2x1x1024_S2x1024)))

def uS (n : FVec Ideal S2x2048x1024 .f32) (w : FVec Ideal S2x2x1024x5632 .f32) : FVec Ideal S2x2048x5632 .f32 :=
  Host.dotGeneral dot_S2x2048x1024_S1024x5632_S2x2048x5632_2_0_01_1_n_n none n (shapeCast _ (extractStridedSlice S1x1x1024x5632 ![1, 1, 0, 0] w slices_S2x2x1024x5632_S1x1x1024x5632_1_1_0_0) shapeCasts_S1x1x1024x5632_S1024x5632)

def yS (g : FVec Ideal S2x2048x5632 .f32) (h : FVec Ideal S2x2048x1024 .f32) (mods : FVec Ideal S3x9x1024 .f32) (wd : FVec Ideal S2x2x2816x1024 .f32) : FVec Ideal S2x2048x1024 .f32 :=
  addf h (mulf (broadcastInDim S2x2048x1024 ![0, 1, 2] bcast_S2x1x1024_S2x2048x1024_0_1_2 (mulf (broadcastInDim S2x1x1024 ![] bcast_S_S2x1x1024 (constant S_ .f32 0x3F000000#32)) (broadcastInDim S2x1x1024 ![0, 2] bcast_S2x1024_S2x1x1024_0_2 (shapeCast _ (extractStridedSlice S2x1x1024 ![0, 8, 0] (extractStridedSlice S2x9x1024 ![1, 0, 0] mods slices_S3x9x1024_S2x9x1024_1_0_0) slices_S2x9x1024_S2x1x1024_0_8_0) shapeCasts_S2x1x1024_S2x1024)))) (Host.dotGeneral dot_S2x2048x2816_S2816x1024_S2x2048x1024_2_0_01_1_n_n none (mulf (mulf (extractStridedSlice S2x2048x2816 ![0, 0, 0] g slices_S2x2048x5632_S2x2048x2816_0_0_0) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (extractStridedSlice S2x2048x2816 ![0, 0, 0] g slices_S2x2048x5632_S2x2048x2816_0_0_0)))))) (extractStridedSlice S2x2048x2816 ![0, 0, 2816] g slices_S2x2048x5632_S2x2048x2816_0_0_2816)) (shapeCast _ (extractStridedSlice S1x1x2816x1024 ![1, 1, 0, 0] wd slices_S2x2x2816x1024_S1x1x2816x1024_1_1_0_0) shapeCasts_S1x1x2816x1024_S2816x1024)))

def oS (y : FVec Ideal S2x2048x1024 .f32) (fg : FVec Ideal S1024 .f32) : FVec Ideal S4096x1024 .f32 :=
  shapeCast _ (mulf (mulf y (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf y y) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 fg))) shapeCasts_S2x2048x1024_S4096x1024

variable (m : (ℓ : Loc nD τ sig) → Buf (Elt Ideal) ℓ) (c : Dev nD)

theorem res_eq : Value.res_main_v120 m c
    = concatenate S8192x1024 0 [⟨S4096x1024, (oP (yP (uP (nP (m ((c.tc : Thread nD τ).loc main_arg0)) (m ((c.tc : Thread nD τ).loc main_arg2)) (m ((c.tc : Thread nD τ).loc main_arg3))) (m ((c.tc : Thread nD τ).loc main_arg4))) (m ((c.tc : Thread nD τ).loc main_arg0)) (m ((c.tc : Thread nD τ).loc main_arg2)) (m ((c.tc : Thread nD τ).loc main_arg5))) (m ((c.tc : Thread nD τ).loc main_arg6)))⟩, ⟨S4096x1024, (oS (yS (uS (nS (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1)) (m ((c.tc : Thread nD τ).loc main_arg2)) (m ((c.tc : Thread nD τ).loc main_arg5))) (m ((c.tc : Thread nD τ).loc main_arg6)))⟩] concatenates_S4096x1024_S4096x1024_S8192x1024_d0 := rfl

/-- The prompts' half of the result at a token. -/
theorem oP_at (h mods ng wu wd fg) (r : Fin 4096) (j : Fin 1024) :
    oP (yP (uP (nP h mods ng) wu) h mods wd) fg (ix2 r j)
      = Rows.tail (fun k => h (ix3 ⟨r.val / 256, by omega⟩ ⟨r.val % 256, by omega⟩ k)) (fun k => mods (ix3 0 8 k))
        (fun j => ∑ x : Fin 2816, Rows.unit (Rows.nrm (fun k => h (ix3 ⟨r.val / 256, by omega⟩ ⟨r.val % 256, by omega⟩ k)) (fun k => ng (ix3 1 2 k)) (fun k => mods (ix3 0 7 k)) (fun k => mods (ix3 0 6 k)))
          (fun k => wu (ix4 1 1 k ⟨x.val, by omega⟩)) (fun k => wu (ix4 1 1 k ⟨2816 + x.val, by omega⟩)) * wd (ix4 1 1 x j))
        (fun k => fg (ix1 k)) j := by
  pointwise [oP, yP, uP, nP, Rows.tail, Rows.unit, Rows.nrm, Rows.rms, Rows.sigm]

/-- The sampled sequences' half of the result at a token. -/
theorem oS_at (h mods ng wu wd fg) (r : Fin 4096) (j : Fin 1024) :
    oS (yS (uS (nS h mods ng) wu) h mods wd) fg (ix2 r j)
      = Rows.tail (fun k => h (ix3 ⟨r.val / 2048, by omega⟩ ⟨r.val % 2048, by omega⟩ k)) (fun k => mods (ix3 ⟨1 + r.val / 2048, by omega⟩ 8 k))
        (fun j => ∑ x : Fin 2816, Rows.unit (Rows.nrm (fun k => h (ix3 ⟨r.val / 2048, by omega⟩ ⟨r.val % 2048, by omega⟩ k)) (fun k => ng (ix3 1 2 k)) (fun k => mods (ix3 ⟨1 + r.val / 2048, by omega⟩ 7 k)) (fun k => mods (ix3 ⟨1 + r.val / 2048, by omega⟩ 6 k)))
          (fun k => wu (ix4 1 1 k ⟨x.val, by omega⟩)) (fun k => wu (ix4 1 1 k ⟨2816 + x.val, by omega⟩)) * wd (ix4 1 1 x j))
        (fun k => fg (ix1 k)) j := by
  pointwise [oS, yS, uS, nS, Rows.tail, Rows.unit, Rows.nrm, Rows.rms, Rows.sigm]

/-- The reference's result at a token and a column. -/
theorem res_at (r : Fin 8192) (j : Fin 1024) : Value.res_out0 m c (ix2 r j)
    = Rows.ffnAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) r j := by
  show Value.res_main_v120 m c (ix2 r j) = _
  rw [res_eq]
  pointwise
  by_cases h : r.val < 4096
  · rw [dif_pos h]
    refine (oP_at _ _ _ _ _ _ ⟨r.val, h⟩ j).trans ?_
    have e : r.val / 256 % 16 = r.val / 256 := by omega
    have hh : ∀ k : Fin 1024, (m ((c.tc : Thread nD τ).loc main_arg0)) (ix3 ⟨r.val / 256, by omega⟩ ⟨r.val % 256, by omega⟩ k) = Rows.hrow (m ((c.tc : Thread nD τ).loc main_arg0)) (m ((c.tc : Thread nD τ).loc main_arg1)) r k := fun k => by
      simp only [Rows.hrow, h, if_true, e]
    simp only [Rows.ffnAt, Rows.ffnN, Rows.grp, h, if_true]
    exact Rows.tail_congr hh (fun _ => rfl) (fun j => Finset.sum_congr rfl fun x _ => congrArg (· * _) (Rows.unit_congr (Rows.nrm_congr hh (fun _ => rfl) (fun _ => rfl) (fun _ => rfl)) (fun _ => rfl) (fun _ => rfl))) (fun _ => rfl) rfl
  · rw [dif_neg h]
    refine (oS_at _ _ _ _ _ _ ⟨r.val - 4096, by omega⟩ j).trans ?_
    have hh : ∀ k : Fin 1024, (m ((c.tc : Thread nD τ).loc main_arg1)) (ix3 ⟨(r.val - 4096) / 2048, by omega⟩ ⟨(r.val - 4096) % 2048, by omega⟩ k) = Rows.hrow (m ((c.tc : Thread nD τ).loc main_arg0)) (m ((c.tc : Thread nD τ).loc main_arg1)) r k := fun k => by
      simp only [Rows.hrow, h, if_false]
    simp only [Rows.ffnAt, Rows.ffnN, Rows.grp, h, if_false]
    exact Rows.tail_congr hh (fun _ => rfl) (fun j => Finset.sum_congr rfl fun x _ => congrArg (· * _) (Rows.unit_congr (Rows.nrm_congr hh (fun _ => rfl) (fun _ => rfl) (fun _ => rfl)) (fun _ => rfl) (fun _ => rfl))) (fun _ => rfl) rfl

end Cert.Reference2Ideal.Ffn

end
-- ==== Proof.FfnKernel.lean ====
/- Hand-written, untrusted: what the last half step and the final norm leave in their result array, at a token and a
   column. -/
module

public import proofs.«01_k».proof.Proof.Gen.Kernel2Ideal.Frame
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen

/-- The normed row the body keeps. -/
theorem norm_at (md : FVec Ideal S1x9x1024 .f32) (h : FVec Ideal S1024x1024 .f32) (ng : FVec Ideal S1x1024 .f32)
    (r k : Fin 1024) :
    k0_pay4 (F := Ideal) md h ng (ix2 r k)
      = Rows.nrm (fun k => h (ix2 r k)) (fun k => ng (ix2 0 k)) (fun k => md (ix3 0 7 k)) (fun k => md (ix3 0 6 k)) k := by
  pointwise [k0_pay4, k0_pay3, Rows.nrm, Rows.rms]

/-- The body's partial sum: its blocks' hidden units against the block of the down weights. -/
theorem part_at (n : FVec Ideal S1024x1024 .bf16) (wg wu : FVec Ideal S1x1x1024x256 .f32) (acc : FVec Ideal S1024x1024 .f32)
    (wd : FVec Ideal S1x1x256x1024 .f32) (r j : Fin 1024) :
    k0_pay1 (F := Ideal) n (k0_pay6 n wg) wu acc wd (ix2 r j)
      = acc (ix2 r j) + ∑ x : Fin 256, Rows.unit (fun k => n (ix2 r k)) (fun k => wg (ix4 0 0 k x)) (fun k => wu (ix4 0 0 k x))
          * wd (ix4 0 0 x j) := by
  pointwise [k0_pay1, k0_pay6, Rows.unit, Rows.sigm]
  simp only [zero_sub]

theorem zero_at (r j : Fin 1024) : k0_pay5 (F := Ideal) (ix2 r j) = 0 := by
  pointwise [k0_pay5]

/-- The body's result at the last block. -/
theorem tail_at (md : FVec Ideal S1x9x1024 .f32) (h acc : FVec Ideal S1024x1024 .f32) (fg : FVec Ideal S1x1024 .f32)
    (r j : Fin 1024) :
    k0_pay2 (F := Ideal) (k0_pay3 md) h acc fg (ix2 r j)
      = Rows.tail (fun k => h (ix2 r k)) (fun k => md (ix3 0 8 k)) (fun k => acc (ix2 r k)) (fun k => fg (ix2 0 k)) j := by
  pointwise [k0_pay2, k0_pay3, Rows.tail, Rows.rms]

variable (m : (ℓ : Loc nD τ sig) → Buf (Elt Ideal) ℓ)

theorem idx_val : ∀ t : Fin cfg0.N, win0_0.index t = ![t.val / 11, 0]
    ∧ win0_1.index t = ![0, 0, 0]
    ∧ win0_2.index t = ![0, 0]
    ∧ win0_3.index t = ![1, 1, 0, t.val % 11]
    ∧ win0_4.index t = ![1, 1, 0, (t.val % 11) + 11]
    ∧ win0_5.index t = ![1, 1, t.val % 11, 0]
    ∧ win0_6.index t = ![0, 0]
    ∧ win0_7.index t = ![t.val / 11, 0] :=
  (by decide +kernel : ∀ t : Fin grid0.N, _)

theorem off_val : ∀ t : Fin cfg0.N,
    k0_off1 (grid0.coords t) = ![if t.val / 11 < 4 then 0 else 1 + (t.val / 11 - 4) / 2, 0, 0] :=
  (by decide +kernel : ∀ t : Fin grid0.N, _)

theorem cat_at (a b : FVec Ideal S4096x1024 .f32) (r : Fin 8192) (k : Fin 1024) :
    concatenate S8192x1024 0 [⟨S4096x1024, a⟩, ⟨S4096x1024, b⟩] concatenates_S4096x1024_S4096x1024_S8192x1024_d0 (ix2 r k)
      = if h : r.val < 4096 then a (ix2 ⟨r.val, h⟩ k) else b (ix2 ⟨r.val - 4096, by omega⟩ k) := by
  pointwise

theorem prompt_at (a : FVec Ideal S16x256x1024 .f32) (r : Fin 4096) (k : Fin 1024) :
    shapeCast S4096x1024 a shapeCasts_S16x256x1024_S4096x1024 (ix2 r k)
      = a (ix3 ⟨r.val / 256, by omega⟩ ⟨r.val % 256, by omega⟩ k) := by
  pointwise

theorem sample_at (a : FVec Ideal S2x2048x1024 .f32) (r : Fin 4096) (k : Fin 1024) :
    shapeCast S4096x1024 a shapeCasts_S2x2048x1024_S4096x1024 (ix2 r k)
      = a (ix3 ⟨r.val / 2048, by omega⟩ ⟨r.val % 2048, by omega⟩ k) := by
  pointwise

/-- The staged hidden state: the prompts' rows, then the sampled sequences'. -/
theorem hidden_at (c : Dev nD) (r : Fin 8192) (k : Fin 1024) : V m c main_v2 (ix2 r k)
    = Rows.hrow (m ((c : Thread nD τ).loc main_arg0)) (m ((c : Thread nD τ).loc main_arg1)) r k := by
  entry_read
  refine (cat_at _ _ r k).trans ?_
  by_cases h : r.val < 4096
  · have e : r.val / 256 % 16 = r.val / 256 := by omega
    rw [dif_pos h]
    refine (prompt_at _ ⟨r.val, h⟩ k).trans ?_
    simp only [Rows.hrow, h, if_true, e]
  · rw [dif_neg h]
    refine (sample_at _ ⟨r.val - 4096, by omega⟩ k).trans ?_
    simp only [Rows.hrow, h, if_false]

/-- The loaded modulation, at a point. -/
theorem mods_at (c : Dev nD) (t : Fin cfg0.N) (r : Fin 8192) (hr : r.val / 1024 = t.val / 11) (i : Fin 9) (k : Fin 1024) (inb) :
    View.ld (iblk m c 1 t) (Rect.unit (s := S3x9x1024) (k0_off1 (grid0.coords t)) ![1, 9, 1024] inb) (ix3 0 i k)
      = m ((c : Thread nD τ).loc main_arg2) (ix3 (Rows.grp r) i k) := by
  have hg : (Rows.grp r : ℕ) = if t.val / 11 < 4 then 0 else 1 + (t.val / 11 - 4) / 2 := by
    unfold Rows.grp
    by_cases h : r.val < 4096
    · rw [if_pos h, if_pos (by omega)]; rfl
    · rw [if_neg h, if_neg (by omega)]
      show 1 + (r.val - 4096) / 2048 = _
      omega
  pointwise
  blk_simp [iblk, idx_val t, off_val t]
  blk_ext [V_main_arg2 m c, idx_val t, hg]

/-- A row of the staged hidden state's block. -/
theorem hblk_at (c : Dev nD) (t : Fin cfg0.N) (r : Fin 8192) (y0 : Fin 1024) (hr : r.val = t.val / 11 * 1024 + y0.val) (k : Fin 1024) :
    iblk m c 0 t (ix2 y0 k : S1024x1024.Idx)
      = Rows.hrow (m ((c : Thread nD τ).loc main_arg0)) (m ((c : Thread nD τ).loc main_arg1)) r k := by
  refine Eq.trans ?_ (hidden_at m c r k)
  blk_ext [iblk, idx_val t, hr]

theorem ng_at (c : Dev nD) (t : Fin cfg0.N) (k : Fin 1024) :
    iblk m c 2 t (ix2 0 k : S1x1024.Idx) = m ((c : Thread nD τ).loc main_arg3) (ix3 1 2 k) := by
  blk_point [iblk, idx_val t]

theorem fg_at (c : Dev nD) (t : Fin cfg0.N) (k : Fin 1024) :
    iblk m c 6 t (ix2 0 k : S1x1024.Idx) = m ((c : Thread nD τ).loc main_arg6) (ix1 k) := by
  blk_point [iblk, idx_val t]

theorem wg_at (c : Dev nD) (t : Fin cfg0.N) (k : Fin 1024) (x : Fin 256) (l : Fin 5632) (hl : l.val = t.val % 11 * 256 + x.val) :
    iblk m c 3 t (ix4 0 0 k x : S1x1x1024x256.Idx) = m ((c : Thread nD τ).loc main_arg4) (ix4 1 1 k l) := by
  blk_point [iblk, idx_val t, hl]

theorem wu_at (c : Dev nD) (t : Fin cfg0.N) (k : Fin 1024) (x : Fin 256) (l : Fin 5632)
    (hl : l.val = 2816 + (t.val % 11 * 256 + x.val)) :
    iblk m c 4 t (ix4 0 0 k x : S1x1x1024x256.Idx) = m ((c : Thread nD τ).loc main_arg4) (ix4 1 1 k l) := by
  blk_point [iblk, idx_val t, hl]

theorem wd_at (c : Dev nD) (t : Fin cfg0.N) (x : Fin 256) (j : Fin 1024) (l : Fin 2816) (hl : l.val = t.val % 11 * 256 + x.val) :
    iblk m c 5 t (ix4 0 0 x j : S1x1x256x1024.Idx) = m ((c : Thread nD τ).loc main_arg5) (ix4 1 1 l j) := by
  blk_point [iblk, idx_val t, hl]

/-- The token a block's row is. -/
def row (t : Fin cfg0.N) (y0 : Fin 1024) : Fin 8192 :=
  ⟨t.val / 11 * 1024 + y0.val, by have := t.isLt; have e : cfg0.N = 88 := N_0; omega⟩

/-- The normed row at a token, over the call's arguments. -/
abbrev N (c : Dev nD) (r : Fin 8192) : Fin 1024 → EReal :=
  Rows.ffnN (m ((c : Thread nD τ).loc main_arg0)) (m ((c : Thread nD τ).loc main_arg1)) (m ((c : Thread nD τ).loc main_arg2))
    (m ((c : Thread nD τ).loc main_arg3)) r

theorem fresh_at (c : Dev nD) (t : Fin cfg0.N) (r k : Fin 1024) (inb) :
    k0_pay4 (View.ld (iblk m c 1 t) (Rect.unit (s := S3x9x1024) (k0_off1 (grid0.coords t)) ![1, 9, 1024] inb)) (iblk m c 0 t)
      (iblk m c 2 t) (ix2 r k) = N m c (row t r) k :=
  (norm_at _ _ _ r k).trans
    (Rows.nrm_congr (hblk_at m c t (row t r) r rfl) (ng_at m c t) (fun k => mods_at m c t (row t r) (by simp only [row]; omega) 7 k _)
      (fun k => mods_at m c t (row t r) (by simp only [row]; omega) 6 k _) k)

/-- The kept normed rows: at every point of a run the run's own. -/
theorem kept_at (c : Dev nD) (n : ℕ) (h : n < cfg0.N) (r k : Fin 1024) :
    (outsAt0 m c n h).2.1 (ix2 r k : S1024x1024.Idx) = N m c (row ⟨n, h⟩ r) k := by
  induction n with
  | zero =>
    rw [outsAt0_A m c ⟨0, h⟩ rfl (by show ¬0 % 11 = 10; omega)]; frame_out
    exact fresh_at m c ⟨0, h⟩ r k _
  | succ n ih =>
    by_cases h0 : (n + 1) % 11 = 0
    · rw [outsAt0_A m c ⟨n + 1, h⟩ h0 (by show ¬(n + 1) % 11 = 10; omega)]; frame_out
      exact fresh_at m c ⟨n + 1, h⟩ r k _
    · have e : row ⟨n + 1, h⟩ r = row ⟨n, Nat.lt_of_succ_lt h⟩ r := by
        apply Fin.ext; simp only [row]; omega
      rw [e, ← ih (Nat.lt_of_succ_lt h)]
      by_cases h1 : (n + 1) % 11 = 10
      · rw [outsAt0_C m c ⟨n + 1, h⟩ h0 h1]; frame_out; rfl
      · rw [outsAt0_B m c ⟨n + 1, h⟩ h0 h1]; frame_out; rfl

/-- A block's share of the feed-forward layer's sum. -/
def share (c : Dev nD) (t : Fin cfg0.N) (i : S1024x1024.Idx) : EReal :=
  ∑ x : Fin 256, Rows.unit (N m c (row t (i 0))) (fun k => (iblk m c 3 t : FVec Ideal S1x1x1024x256 .f32) (ix4 0 0 k x))
    (fun k => (iblk m c 4 t : FVec Ideal S1x1x1024x256 .f32) (ix4 0 0 k x)) * (iblk m c 5 t : FVec Ideal S1x1x256x1024 .f32) (ix4 0 0 x (i 1))

theorem step_at (c : Dev nD) (t : Fin cfg0.N) (n : FVec Ideal S1024x1024 .bf16) (acc : FVec Ideal S1024x1024 .f32)
    (r j : Fin 1024) (hn : ∀ k, n (ix2 r k) = N m c (row t r) k) :
    k0_pay1 n (k0_pay6 n (iblk m c 3 t)) (iblk m c 4 t) acc (iblk m c 5 t) (ix2 r j) = acc (ix2 r j) + share m c t (ix2 r j) :=
  (part_at n _ _ acc _ r j).trans
    (congrArg (acc (ix2 r j) + ·) (Finset.sum_congr rfl fun x _ => congrArg (· * _) (Rows.unit_congr hn (fun _ => rfl) (fun _ => rfl))))

theorem prev_at (c : Dev nD) (t : Fin cfg0.N) (h0 : ¬t.val % 11 = 0) (h) (r k : Fin 1024) :
    (outsAt0 m c (t.val - 1) h).2.1 (ix2 r k : S1024x1024.Idx) = N m c (row t r) k := by
  have e : row t r = row ⟨t.val - 1, h⟩ r := by
    apply Fin.ext; simp only [row]; omega
  rw [e]
  exact kept_at m c (t.val - 1) h r k

theorem acc_reset (c : Dev nD) (t : Fin cfg0.N) (h0 : t.val % 11 = 0) (i : S1024x1024.Idx) :
    (outsAt0 m c t.val t.isLt).2.2 i = 0 + share m c t i := by
  obtain ⟨r, j, rfl⟩ : ∃ r j : Fin 1024, i = ix2 r j := ⟨i 0, i 1, eq_ix2 i⟩
  rw [outsAt0_A m c t h0 (by omega)]; frame_out
  refine (step_at m c t _ _ r j (fun k => fresh_at m c t r k _)).trans ?_
  rw [zero_at]

theorem acc_step (c : Dev nD) (t : Fin cfg0.N) (h0 : ¬t.val % 11 = 0) (i : S1024x1024.Idx) :
    (outsAt0 m c t.val t.isLt).2.2 i
      = (outsAt0 m c (t.val - 1) (Nat.lt_of_le_of_lt (Nat.sub_le _ _) t.isLt)).2.2 i + share m c t i := by
  obtain ⟨r, j, rfl⟩ : ∃ r j : Fin 1024, i = ix2 r j := ⟨i 0, i 1, eq_ix2 i⟩
  by_cases h1 : t.val % 11 = 10
  · rw [outsAt0_C m c t h0 h1]; frame_out
    rw [read_unread_whole, read_unread_whole]
    exact step_at m c t _ _ r j (prev_at m c t h0 _ r)
  · rw [outsAt0_B m c t h0 h1]; frame_out
    rw [read_unread_whole, read_unread_whole]
    exact step_at m c t _ _ r j (prev_at m c t h0 _ r)

/-- The accumulated sum at a run's last point. -/
theorem acc_flush (c : Dev nD) (t : Fin cfg0.N) (hf : t.val % 11 = 10) (r j : Fin 1024) :
    (outsAt0 m c t.val t.isLt).2.2 (ix2 r j : S1024x1024.Idx)
      = ∑ x : Fin 2816, Rows.unit (N m c (row t r)) (fun k => m ((c : Thread nD τ).loc main_arg4) (ix4 1 1 k ⟨x.val, by omega⟩))
          (fun k => m ((c : Thread nD τ).loc main_arg4) (ix4 1 1 k ⟨2816 + x.val, by omega⟩))
          * m ((c : Thread nD τ).loc main_arg5) (ix4 1 1 x j) := by
  rw [Pipeline.eq_sum_fin_of_reset_step_apply_of_flush (fun n h => (outsAt0 m c n h).2.2) 11 (fun _ => 0) (share m c)
    (acc_reset m c) (acc_step m c) t hf (ix2 r j), zero_add]
  refine Fin.sum_mul_add_congr fun s x hl => ?_
  have hs : (⟨11 * (t.val / 11) + s.val, Pipeline.run_point_lt_of_flush t hf s⟩ : Fin cfg0.N).val % 11 = s.val := by
    show (11 * (t.val / 11) + s.val) % 11 = s.val
    omega
  have er : row ⟨11 * (t.val / 11) + s.val, Pipeline.run_point_lt_of_flush t hf s⟩ r = row t r := by
    apply Fin.ext; simp only [row]; omega
  refine congrArg₂ (· * ·) (Rows.unit_congr (fun k => congrArg (N m c · k) er) (fun k => wg_at m c _ k x _ ?_) (fun k => wu_at m c _ k x _ ?_)) (wd_at m c _ x j _ ?_)
  all_goals rw [hs]

theorem out_at (c : Dev nD) (t : Fin cfg0.N) (hf : t.val % 11 = 10) (r j : Fin 1024) :
    (outsAt0 m c t.val t.isLt).1 (ix2 r j : S1024x1024.Idx)
      = Rows.ffnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) j := by
  have ha := fun j => acc_flush m c t hf r j
  rw [outsAt0_C m c t (by omega) hf] at ha ⊢
  revert ha
  frame_out
  intro ha
  exact (tail_at _ _ _ _ r j).trans (Rows.tail_congr (hblk_at m c t (row t r) r rfl)
    (fun k => mods_at m c t (row t r) (by simp only [row]; omega) 8 k _) ha (fg_at m c t) rfl)

theorem final (c : Dev nD) : (dats m 0 c).arrAt 7 (cfgs 0).N
    = fun i : S8192x1024.Idx => Rows.ffnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 7 _ (by decide +kernel) fun t hf y => ?_
  blk_simp; rw [after0_7]
  have ey : y = (ix2 (y 0) (y 1) : S1024x1024.Idx) := eq_ix2 y
  rw [ey]
  refine (out_at m c t ((flush0_7 t).mp hf) (y 0) (y 1)).trans ?_
  have hr : (((View.whole main_v7).slice (win0_7.rect t)).emb (ix2 (y 0) (y 1) : S1024x1024.Idx) 0 : Fin 8192) = row t (y 0) := by
    apply Fin.ext; simp only [row]; blk_simp [idx_val t]
  have hj : (((View.whole main_v7).slice (win0_7.rect t)).emb (ix2 (y 0) (y 1) : S1024x1024.Idx) 1 : Fin 1024) = y 1 := by
    apply Fin.ext; blk_simp [idx_val t]
  exact congrArg₂ (Rows.ffnAt _ _ _ _ _ _ _) hr.symm hj.symm

end Cert.Kernel2Ideal.Ffn

end
-- ==== Proof.FfnClaim.lean ====
/- Hand-written, untrusted: the two programs of the call leave the same result. -/
module

public import proofs.«01_k».proof.Defs
public import proofs.«01_k».proof.Proof.FfnRef
public import proofs.«01_k».proof.Proof.FfnKernel
public import proofs.«01_k».proof.Proof.Gen.Kernel2Ideal.Value
public import Idealize.ShloMosaic.Lib.Claim

@[expose] public section

set_option maxRecDepth 16384

noncomputable section

open Idealize.ShloMosaic Idealize.ShloMosaic.TcCoe Idealize.SL.Sem

namespace Cert.Ffn

theorem algebraic : Cert.algebraic_Kernel2Ideal_Reference2Ideal := by
  pair_intro
  · run_from Cert.Kernel2Ideal.Gen.run_main m g
  · run_from Cert.Reference2Ideal.Value.run m' g'
    obtain ⟨a0, a1, a2, a3, a4, a5, a6⟩ := hagree c
    rw [Cert.Kernel2Ideal.Ffn.final m c]
    funext i
    obtain ⟨r, j, rfl⟩ : ∃ (r : Fin 8192) (j : Fin 1024), i = ix2 r j := ⟨i 0, i 1, eq_ix2 i⟩
    refine (Cert.Reference2Ideal.Ffn.res_at m' c r j).trans ?_
    rw [a0, a1, a2, a3, a4, a5, a6]
    rfl

end Cert.Ffn

end
-- ==== Proof.MixRef.lean ====
module

public import proofs.«01_k».proof.Proof.Gen.Reference3Ideal.Run
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Reference3Ideal.Mix

open Cert.Reference3Ideal Cert.Reference3Ideal.Gen

def nP (h : FVec Ideal S16x256x1024 .f32) (mods : FVec Ideal S3x9x1024 .f32) (ng : FVec Ideal S3x1024 .f32) : FVec Ideal S16x256x1024 .f32 :=
  addf (mulf (mulf (mulf h (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf h h) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![1, 0] ng slices_S3x1024_S1x1024_1_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 4, 0] (extractStridedSlice S1x9x1024 ![0, 0, 0] mods slices_S3x9x1024_S1x9x1024_0_0_0) slices_S1x9x1024_S1x1x1024_0_4_0) shapeCasts_S1x1x1024_S1x1024))))) (broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 3, 0] (extractStridedSlice S1x9x1024 ![0, 0, 0] mods slices_S3x9x1024_S1x9x1024_0_0_0) slices_S1x9x1024_S1x1x1024_0_3_0) shapeCasts_S1x1x1024_S1x1024)))

def gP (n : FVec Ideal S16x256x1024 .f32) (w : FVec Ideal S1024x4512 .f32) : FVec Ideal S16x256x3072 .f32 :=
  Host.divf (broadcastInDim S16x256x3072 ![] bcast_S_S16x256x3072 (constant S_ .f32 0x3F800000#32)) (addf (broadcastInDim S16x256x3072 ![] bcast_S_S16x256x3072 (constant S_ .f32 0x3F800000#32)) (Host.exp (Host.negf (extractStridedSlice S16x256x3072 ![0, 0, 1440] (Host.dotGeneral dot_S16x256x1024_S1024x4512_S16x256x4512_2_0_01_1_n_n none n w) slices_S16x256x4512_S16x256x3072_0_0_1440))))

def yP (g : FVec Ideal S16x256x3072 .f32) (z : FVec Ideal S8192x256 .bf16) (a : FVec Ideal S8192x512 .bf16) (f : FVec Ideal S8192x256 .bf16) (wa : FVec Ideal S256x1024 .f32) (wb : FVec Ideal S512x1024 .f32) (wc : FVec Ideal S256x1024 .f32) : FVec Ideal S16x256x1024 .f32 :=
  addf (addf (mulf (extractStridedSlice S16x256x1024 ![0, 0, 0] g slices_S16x256x3072_S16x256x1024_0_0_0) (Host.dotGeneral dot_S16x256x256_S256x1024_S16x256x1024_2_0_01_1_n_n none (shapeCast _ (extractStridedSlice S4096x256 ![0, 0] (extf .f32 z bitsLt_bf16_f32) slices_S8192x256_S4096x256_0_0) shapeCasts_S4096x256_S16x256x256) wa)) (mulf (extractStridedSlice S16x256x1024 ![0, 0, 1024] g slices_S16x256x3072_S16x256x1024_0_0_1024) (Host.dotGeneral dot_S16x256x512_S512x1024_S16x256x1024_2_0_01_1_n_n none (shapeCast _ (extractStridedSlice S4096x512 ![0, 0] (extf .f32 a bitsLt_bf16_f32) slices_S8192x512_S4096x512_0_0) shapeCasts_S4096x512_S16x256x512) wb))) (mulf (extractStridedSlice S16x256x1024 ![0, 0, 2048] g slices_S16x256x3072_S16x256x1024_0_0_2048) (Host.dotGeneral dot_S16x256x256_S256x1024_S16x256x1024_2_0_01_1_n_n none (shapeCast _ (extractStridedSlice S4096x256 ![0, 0] (extf .f32 f bitsLt_bf16_f32) slices_S8192x256_S4096x256_0_0) shapeCasts_S4096x256_S16x256x256) wc))

def oP (h : FVec Ideal S16x256x1024 .f32) (mods : FVec Ideal S3x9x1024 .f32) (y : FVec Ideal S16x256x1024 .f32) (wo : FVec Ideal S1024x1024 .f32) : FVec Ideal S4096x1024 .f32 :=
  shapeCast _ (addf h (mulf (broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 5, 0] (extractStridedSlice S1x9x1024 ![0, 0, 0] mods slices_S3x9x1024_S1x9x1024_0_0_0) slices_S1x9x1024_S1x1x1024_0_5_0) shapeCasts_S1x1x1024_S1x1024))) (Host.dotGeneral dot_S16x256x1024_S1024x1024_S16x256x1024_2_0_01_1_n_n none y wo))) shapeCasts_S16x256x1024_S4096x1024

def nS (h : FVec Ideal S2x2048x1024 .f32) (mods : FVec Ideal S3x9x1024 .f32) (ng : FVec Ideal S3x1024 .f32) : FVec Ideal S2x2048x1024 .f32 :=
  addf (mulf (mulf (mulf h (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf h h) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ (extractStridedSlice S1x1024 ![1, 0] ng slices_S3x1024_S1x1024_1_0) shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 4, 0] (extractStridedSlice S2x9x1024 ![1, 0, 0] mods slices_S3x9x1024_S2x9x1024_1_0_0) slices_S2x9x1024_S2x1x1024_0_4_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 3, 0] (extractStridedSlice S2x9x1024 ![1, 0, 0] mods slices_S3x9x1024_S2x9x1024_1_0_0) slices_S2x9x1024_S2x1x1024_0_3_0) shapeCasts_S2x1x1024_S2x1024)))

def gS (n : FVec Ideal S2x2048x1024 .f32) (w : FVec Ideal S1024x4512 .f32) : FVec Ideal S2x2048x3072 .f32 :=
  Host.divf (broadcastInDim S2x2048x3072 ![] bcast_S_S2x2048x3072 (constant S_ .f32 0x3F800000#32)) (addf (broadcastInDim S2x2048x3072 ![] bcast_S_S2x2048x3072 (constant S_ .f32 0x3F800000#32)) (Host.exp (Host.negf (extractStridedSlice S2x2048x3072 ![0, 0, 1440] (Host.dotGeneral dot_S2x2048x1024_S1024x4512_S2x2048x4512_2_0_01_1_n_n none n w) slices_S2x2048x4512_S2x2048x3072_0_0_1440))))

def yS (g : FVec Ideal S2x2048x3072 .f32) (z : FVec Ideal S8192x256 .bf16) (a : FVec Ideal S8192x512 .bf16) (f : FVec Ideal S8192x256 .bf16) (wa : FVec Ideal S256x1024 .f32) (wb : FVec Ideal S512x1024 .f32) (wc : FVec Ideal S256x1024 .f32) : FVec Ideal S2x2048x1024 .f32 :=
  addf (addf (mulf (extractStridedSlice S2x2048x1024 ![0, 0, 0] g slices_S2x2048x3072_S2x2048x1024_0_0_0) (Host.dotGeneral dot_S2x2048x256_S256x1024_S2x2048x1024_2_0_01_1_n_n none (shapeCast _ (extractStridedSlice S4096x256 ![4096, 0] (extf .f32 z bitsLt_bf16_f32) slices_S8192x256_S4096x256_4096_0) shapeCasts_S4096x256_S2x2048x256) wa)) (mulf (extractStridedSlice S2x2048x1024 ![0, 0, 1024] g slices_S2x2048x3072_S2x2048x1024_0_0_1024) (Host.dotGeneral dot_S2x2048x512_S512x1024_S2x2048x1024_2_0_01_1_n_n none (shapeCast _ (extractStridedSlice S4096x512 ![4096, 0] (extf .f32 a bitsLt_bf16_f32) slices_S8192x512_S4096x512_4096_0) shapeCasts_S4096x512_S2x2048x512) wb))) (mulf (extractStridedSlice S2x2048x1024 ![0, 0, 2048] g slices_S2x2048x3072_S2x2048x1024_0_0_2048) (Host.dotGeneral dot_S2x2048x256_S256x1024_S2x2048x1024_2_0_01_1_n_n none (shapeCast _ (extractStridedSlice S4096x256 ![4096, 0] (extf .f32 f bitsLt_bf16_f32) slices_S8192x256_S4096x256_4096_0) shapeCasts_S4096x256_S2x2048x256) wc))

def oS (h : FVec Ideal S2x2048x1024 .f32) (mods : FVec Ideal S3x9x1024 .f32) (y : FVec Ideal S2x2048x1024 .f32) (wo : FVec Ideal S1024x1024 .f32) : FVec Ideal S4096x1024 .f32 :=
  shapeCast _ (addf h (mulf (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 5, 0] (extractStridedSlice S2x9x1024 ![1, 0, 0] mods slices_S3x9x1024_S2x9x1024_1_0_0) slices_S2x9x1024_S2x1x1024_0_5_0) shapeCasts_S2x1x1024_S2x1024))) (Host.dotGeneral dot_S2x2048x1024_S1024x1024_S2x2048x1024_2_0_01_1_n_n none y wo))) shapeCasts_S2x2048x1024_S4096x1024

variable (m : (ℓ : Loc nD τ sig) → Buf (Elt Ideal) ℓ) (c : Dev nD)

theorem res_eq : Value.res_main_v125 m c
    = concatenate S8192x1024 0 [⟨S4096x1024, (oP (m ((c.tc : Thread nD τ).loc main_arg0)) (m ((c.tc : Thread nD τ).loc main_arg2)) (yP (gP (nP (m ((c.tc : Thread nD τ).loc main_arg0)) (m ((c.tc : Thread nD τ).loc main_arg2)) (m ((c.tc : Thread nD τ).loc main_arg3))) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)))⟩, ⟨S4096x1024, (oS (m ((c.tc : Thread nD τ).loc main_arg1)) (m ((c.tc : Thread nD τ).loc main_arg2)) (yS (gS (nS (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)))⟩] concatenates_S4096x1024_S4096x1024_S8192x1024_d0 := rfl

/-- The prompts' half of the result at a token. -/
theorem oP_at (h mods ng w z a f wa wb wc wo) (r : Fin 4096) (j : Fin 1024) :
    oP h mods (yP (gP (nP h mods ng) w) z a f wa wb wc) wo (ix2 r j)
      = Rows.merge (fun k => h (ix3 ⟨r.val / 256, by omega⟩ ⟨r.val % 256, by omega⟩ k))
        (Rows.nrm (fun k => h (ix3 ⟨r.val / 256, by omega⟩ ⟨r.val % 256, by omega⟩ k)) (fun k => ng (ix2 1 k))
          (fun k => mods (ix3 0 4 k)) (fun k => mods (ix3 0 3 k)))
        (fun k => mods (ix3 0 5 k)) (fun k x => w (ix2 k ⟨1440 + x.val, by omega⟩))
        (fun k => z (ix2 ⟨r.val, by omega⟩ k)) (fun k => a (ix2 ⟨r.val, by omega⟩ k)) (fun k => f (ix2 ⟨r.val, by omega⟩ k))
        (fun k x => wa (ix2 k x)) (fun k x => wb (ix2 k x)) (fun k x => wc (ix2 k x)) (fun k x => wo (ix2 k x)) j := by
  pointwise [oP, yP, gP, nP, Rows.merge, Rows.nrm, Rows.rms, Rows.sigm]

/-- The sampled sequences' half of the result at a token. -/
theorem oS_at (h mods ng w z a f wa wb wc wo) (r : Fin 4096) (j : Fin 1024) :
    oS h mods (yS (gS (nS h mods ng) w) z a f wa wb wc) wo (ix2 r j)
      = Rows.merge (fun k => h (ix3 ⟨r.val / 2048, by omega⟩ ⟨r.val % 2048, by omega⟩ k))
        (Rows.nrm (fun k => h (ix3 ⟨r.val / 2048, by omega⟩ ⟨r.val % 2048, by omega⟩ k)) (fun k => ng (ix2 1 k))
          (fun k => mods (ix3 ⟨1 + r.val / 2048, by omega⟩ 4 k)) (fun k => mods (ix3 ⟨1 + r.val / 2048, by omega⟩ 3 k)))
        (fun k => mods (ix3 ⟨1 + r.val / 2048, by omega⟩ 5 k)) (fun k x => w (ix2 k ⟨1440 + x.val, by omega⟩))
        (fun k => z (ix2 ⟨4096 + r.val, by omega⟩ k)) (fun k => a (ix2 ⟨4096 + r.val, by omega⟩ k)) (fun k => f (ix2 ⟨4096 + r.val, by omega⟩ k))
        (fun k x => wa (ix2 k x)) (fun k x => wb (ix2 k x)) (fun k x => wc (ix2 k x)) (fun k x => wo (ix2 k x)) j := by
  pointwise [oS, yS, gS, nS, Rows.merge, Rows.nrm, Rows.rms, Rows.sigm]

/-- The reference's result at a token and a column. -/
theorem res_at (r : Fin 8192) (j : Fin 1024) : Value.res_out0 m c (ix2 r j)
    = Rows.mixAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) r j := by
  show Value.res_main_v125 m c (ix2 r j) = _
  rw [res_eq]
  pointwise
  by_cases h : r.val < 4096
  · rw [dif_pos h]
    refine (oP_at _ _ _ _ _ _ _ _ _ _ _ ⟨r.val, h⟩ j).trans ?_
    have e : r.val / 256 % 16 = r.val / 256 := by omega
    have hh : ∀ k : Fin 1024, (m ((c.tc : Thread nD τ).loc main_arg0)) (ix3 ⟨r.val / 256, by omega⟩ ⟨r.val % 256, by omega⟩ k) = Rows.hrow (m ((c.tc : Thread nD τ).loc main_arg0)) (m ((c.tc : Thread nD τ).loc main_arg1)) r k := fun k => by
      simp only [Rows.hrow, h, if_true, e]
    simp only [Rows.mixAt, Rows.grp, h, if_true]
    exact Rows.merge_congr hh (Rows.nrm_congr hh (fun _ => rfl) (fun _ => rfl) (fun _ => rfl)) (fun _ => rfl) (fun _ _ => rfl)
      (fun _ => rfl) (fun _ => rfl) (fun _ => rfl) (fun _ _ => rfl) (fun _ _ => rfl) (fun _ _ => rfl) (fun _ _ => rfl) rfl
  · rw [dif_neg h]
    refine (oS_at _ _ _ _ _ _ _ _ _ _ _ ⟨r.val - 4096, by omega⟩ j).trans ?_
    have e : 4096 + (r.val - 4096) = r.val := by omega
    have hh : ∀ k : Fin 1024, (m ((c.tc : Thread nD τ).loc main_arg1)) (ix3 ⟨(r.val - 4096) / 2048, by omega⟩ ⟨(r.val - 4096) % 2048, by omega⟩ k) = Rows.hrow (m ((c.tc : Thread nD τ).loc main_arg0)) (m ((c.tc : Thread nD τ).loc main_arg1)) r k := fun k => by
      simp only [Rows.hrow, h, if_false]
    simp only [Rows.mixAt, Rows.grp, h, if_false, e]
    exact Rows.merge_congr hh (Rows.nrm_congr hh (fun _ => rfl) (fun _ => rfl) (fun _ => rfl)) (fun _ => rfl) (fun _ _ => rfl)
      (fun _ => rfl) (fun _ => rfl) (fun _ => rfl) (fun _ _ => rfl) (fun _ _ => rfl) (fun _ _ => rfl) (fun _ _ => rfl) rfl

end Cert.Reference3Ideal.Mix

end
-- ==== Proof.MixKernel.lean ====
/- Hand-written, untrusted: what the gated merge leaves in its result array, at a token and a column. -/
module

public import proofs.«01_k».proof.Proof.Gen.Kernel3Ideal.Frame
public import proofs.«01_k».proof.Proof.Rows
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Mix

open Cert.Kernel3Ideal Cert.Kernel3Ideal.Gen

/-- The body's stored value at a row and a column, over its loaded blocks. -/
theorem pay_at (md : FVec Ideal S1x9x1024 .f32) (h : FVec Ideal S512x1024 .f32) (ng : FVec Ideal S1x1024 .f32)
    (w1 w2 w3 : FVec Ideal S1024x1024 .bf16) (z : FVec Ideal S512x256 .bf16) (a : FVec Ideal S512x512 .bf16)
    (f : FVec Ideal S512x256 .bf16) (wa : FVec Ideal S256x1024 .bf16) (wb : FVec Ideal S512x1024 .bf16)
    (wc : FVec Ideal S256x1024 .bf16) (wo : FVec Ideal S1024x1024 .bf16) (wg : Fin 1024 → Fin 3072 → EReal)
    (h1 : ∀ k x : Fin 1024, w1 (ix2 k x) = wg k ⟨x.val, by omega⟩)
    (h2 : ∀ k x : Fin 1024, w2 (ix2 k x) = wg k ⟨1024 + x.val, by omega⟩)
    (h3 : ∀ k x : Fin 1024, w3 (ix2 k x) = wg k ⟨2048 + x.val, by omega⟩)
    (r : Fin 512) (j : Fin 1024) :
    k0_pay1 (F := Ideal) (k0_pay2 md) (k0_pay3 h) (k0_pay6 (k0_pay2 md) (k0_pay3 h) (k0_pay4 ng) (k0_pay5 h))
        (k0_pay7 (k0_pay2 md) (k0_pay3 h) (k0_pay4 ng) (k0_pay5 h) w1 z wa)
        (k0_pay8 (k0_pay2 md) (k0_pay3 h) (k0_pay4 ng) (k0_pay5 h) w2) a wb w3 f wc wo (ix2 r j)
      = Rows.merge (fun k => h (ix2 r k))
        (Rows.nrm (fun k => h (ix2 r k)) (fun k => ng (ix2 0 k)) (fun k => md (ix3 0 4 k)) (fun k => md (ix3 0 3 k)))
        (fun k => md (ix3 0 5 k)) wg
        (fun k => z (ix2 r k)) (fun k => a (ix2 r k)) (fun k => f (ix2 r k))
        (fun k x => wa (ix2 k x)) (fun k x => wb (ix2 k x)) (fun k x => wc (ix2 k x)) (fun k x => wo (ix2 k x)) j := by
  pointwise [k0_pay1, k0_pay2, k0_pay3, k0_pay4, k0_pay5, k0_pay6, k0_pay7, k0_pay8, Rows.merge, Rows.nrm, Rows.rms, Rows.sigm]
  simp only [h1, h2, h3, zero_sub]

variable (m : (ℓ : Loc nD τ sig) → Buf (Elt Ideal) ℓ)

theorem idx_val : ∀ t : Fin cfg0.N, win0_0.index t = ![t.val, 0]
    ∧ win0_1.index t = ![0, 0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![t.val, 0] :=
  (by decide +kernel : ∀ t : Fin grid0.N, _)

theorem off_val : ∀ t : Fin cfg0.N, k0_off1 (grid0.coords t) = ![if t.val < 8 then 0 else 1 + (t.val - 8) / 4, 0, 0] :=
  (by decide +kernel : ∀ t : Fin grid0.N, _)

theorem cat_at (a b : FVec Ideal S4096x1024 .f32) (r : Fin 8192) (k : Fin 1024) :
    concatenate S8192x1024 0 [⟨S4096x1024, a⟩, ⟨S4096x1024, b⟩] concatenates_S4096x1024_S4096x1024_S8192x1024_d0 (ix2 r k)
      = if h : r.val < 4096 then a (ix2 ⟨r.val, h⟩ k) else b (ix2 ⟨r.val - 4096, by omega⟩ k) := by
  pointwise

theorem prompt_at (a : FVec Ideal S16x256x1024 .f32) (r : Fin 4096) (k : Fin 1024) :
    shapeCast S4096x1024 a shapeCasts_S16x256x1024_S4096x1024 (ix2 r k)
      = a (ix3 ⟨r.val / 256, by omega⟩ ⟨r.val % 256, by omega⟩ k) := by
  pointwise

theorem sample_at (a : FVec Ideal S2x2048x1024 .f32) (r : Fin 4096) (k : Fin 1024) :
    shapeCast S4096x1024 a shapeCasts_S2x2048x1024_S4096x1024 (ix2 r k)
      = a (ix3 ⟨r.val / 2048, by omega⟩ ⟨r.val % 2048, by omega⟩ k) := by
  pointwise

/-- The staged hidden state: the prompts' rows, then the sampled sequences'. -/
theorem hidden_at (c : Dev nD) (r : Fin 8192) (k : Fin 1024) : V m c main_v2 (ix2 r k)
    = Rows.hrow (m ((c : Thread nD τ).loc main_arg0)) (m ((c : Thread nD τ).loc main_arg1)) r k := by
  entry_read
  refine (cat_at _ _ r k).trans ?_
  by_cases h : r.val < 4096
  · have e : r.val / 256 % 16 = r.val / 256 := by omega
    rw [dif_pos h]
    refine (prompt_at _ ⟨r.val, h⟩ k).trans ?_
    simp only [Rows.hrow, h, if_true, e]
  · rw [dif_neg h]
    refine (sample_at _ ⟨r.val - 4096, by omega⟩ k).trans ?_
    simp only [Rows.hrow, h, if_false]

/-- The loaded modulation, at a point. -/
theorem mods_at (c : Dev nD) (t : Fin cfg0.N) (r : Fin 8192) (hr : r.val / 512 = t.val) (i : Fin 9) (k : Fin 1024) (inb) :
    View.ld (iblk m c 1 t) (Rect.unit (s := S3x9x1024) (k0_off1 (grid0.coords t)) ![1, 9, 1024] inb) (ix3 0 i k)
      = m ((c : Thread nD τ).loc main_arg2) (ix3 (Rows.grp r) i k) := by
  have hg : (Rows.grp r : ℕ) = if t.val < 8 then 0 else 1 + (t.val - 8) / 4 := by
    unfold Rows.grp
    by_cases h : r.val < 4096
    · rw [if_pos h, if_pos (by omega)]; rfl
    · rw [if_neg h, if_neg (by omega)]
      show 1 + (r.val - 4096) / 2048 = _
      omega
  pointwise
  blk_simp [iblk, idx_val t, off_val t]
  blk_ext [V_main_arg2 m c, idx_val t, hg]

/-- A row of the staged hidden state's block. -/
theorem hblk_at (c : Dev nD) (t : Fin cfg0.N) (r : Fin 8192) (y0 : Fin 512) (hr : r.val = t.val * 512 + y0.val) (k : Fin 1024) :
    iblk m c 0 t (ix2 y0 k : S512x1024.Idx)
      = Rows.hrow (m ((c : Thread nD τ).loc main_arg0)) (m ((c : Thread nD τ).loc main_arg1)) r k := by
  refine Eq.trans ?_ (hidden_at m c r k)
  blk_ext [iblk, idx_val t, hr]

theorem final (c : Dev nD) : (dats m 0 c).arrAt 11 (cfgs 0).N
    = fun i : S8192x1024.Idx => Rows.mixAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) := by
  refine (dats m 0 c).arrAt_eq_of_covers 11 _ (by decide +kernel) fun t hf y => ?_
  blk_simp; rw [after0_11]
  unfold Gen.outsAt0
  frame_out
  have ht : t.val < 16 := lt_of_lt_of_eq t.isLt N_0
  have ey : y = (ix2 (y 0) (y 1) : S512x1024.Idx) := eq_ix2 y
  rw [ey]
  have hy : (y 0 : ℕ) < 512 := (y 0).isLt
  have hr : ((((View.whole main_v10).slice (win0_11.rect t)).emb (ix2 (y 0) (y 1) : S512x1024.Idx) 0 : Fin 8192) : ℕ) = t.val * 512 + (y 0 : ℕ) := by
    blk_simp [idx_val t]
  have hj : (((View.whole main_v10).slice (win0_11.rect t)).emb (ix2 (y 0) (y 1) : S512x1024.Idx) 1 : Fin 1024) = y 1 := by
    apply Fin.ext; blk_simp [idx_val t]
  generalize (((View.whole main_v10).slice (win0_11.rect t)).emb (ix2 (y 0) (y 1) : S512x1024.Idx) 0 : Fin 8192) = r at hr ⊢
  have hh := hblk_at m c t r (y 0) hr
  have hm := mods_at m c t r (by omega)
  refine (pay_at _ _ _ _ _ _ _ _ _ _ _ _ _ (fun k x => (m ((c : Thread nD τ).loc main_arg4) : FVec Ideal S1024x4512 .f32) (ix2 k ⟨1440 + x.val, by omega⟩)) ?_ ?_ ?_ (y 0) (y 1)).trans ?_
  · intro k x; pointwise; blk_point [iblk, idx_val t]
  · intro k x; pointwise; blk_point [iblk, idx_val t]
  · intro k x; pointwise; blk_point [iblk, idx_val t]
  refine Rows.merge_congr hh (Rows.nrm_congr hh ?_ (fun k => hm 4 k _) (fun k => hm 3 k _)) (fun k => hm 5 k _) (fun _ _ => rfl) ?_ ?_ ?_ ?_ ?_ ?_ ?_ hj.symm
  · intro k; blk_point [iblk, idx_val t]
  all_goals (first | intro k x; blk_point [iblk, idx_val t]; done | intro k; blk_point [iblk, idx_val t, hr]; done)

end Cert.Kernel3Ideal.Mix

end
-- ==== Proof.MixClaim.lean ====
/- Hand-written, untrusted: the two programs of the call leave the same result. -/
module

public import proofs.«01_k».proof.Defs
public import proofs.«01_k».proof.Proof.MixRef
public import proofs.«01_k».proof.Proof.MixKernel
public import proofs.«01_k».proof.Proof.Gen.Kernel3Ideal.Value
public import Idealize.ShloMosaic.Lib.Claim

@[expose] public section

set_option maxRecDepth 16384

noncomputable section

open Idealize.ShloMosaic Idealize.ShloMosaic.TcCoe Idealize.SL.Sem

namespace Cert.Mix

theorem algebraic : Cert.algebraic_Kernel3Ideal_Reference3Ideal := by
  pair_intro
  · run_from Cert.Kernel3Ideal.Gen.run_main m g
  · run_from Cert.Reference3Ideal.Value.run m' g'
    obtain ⟨a0, a1, a2, a3, a4, a5, a6, a7, a8, a9, a10, a11⟩ := hagree c
    rw [Cert.Kernel3Ideal.Mix.final m c]
    funext i
    obtain ⟨r, j, rfl⟩ : ∃ (r : Fin 8192) (j : Fin 1024), i = ix2 r j := ⟨i 0, i 1, eq_ix2 i⟩
    refine (Cert.Reference3Ideal.Mix.res_at m' c r j).trans ?_
    rw [a0, a1, a2, a3, a4, a5, a6, a7, a8, a9, a10, a11]
    rfl

end Cert.Mix

end
-- ==== Proof.HalfRef.lean ====
/- Hand-written, untrusted: what the first half step's reference leaves, at a token and a column. -/
module

public import proofs.«01_k».proof.Proof.Gen.Reference4Ideal.Run
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Reference4Ideal.Half

open Cert.Reference4Ideal Cert.Reference4Ideal.Gen

def nP (h : FVec Ideal S16x256x1024 .f32) (mods : FVec Ideal S3x9x1024 .f32) (ng : FVec Ideal S2x3x1024 .f32) : FVec Ideal S16x256x1024 .f32 :=
  addf (mulf (mulf (mulf h (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf h h) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1x1024 ![0, 0, 0] ng slices_S2x3x1024_S1x1x1024_0_0_0) shapeCasts_S1x1x1024_S1024)))) (broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] (extractStridedSlice S1x9x1024 ![0, 0, 0] mods slices_S3x9x1024_S1x9x1024_0_0_0) slices_S1x9x1024_S1x1x1024_0_1_0) shapeCasts_S1x1x1024_S1x1024))))) (broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 0, 0] (extractStridedSlice S1x9x1024 ![0, 0, 0] mods slices_S3x9x1024_S1x9x1024_0_0_0) slices_S1x9x1024_S1x1x1024_0_0_0) shapeCasts_S1x1x1024_S1x1024)))

def uP (n : FVec Ideal S16x256x1024 .f32) (w : FVec Ideal S2x2x1024x5632 .f32) : FVec Ideal S16x256x5632 .f32 :=
  Host.dotGeneral dot_S16x256x1024_S1024x5632_S16x256x5632_2_0_01_1_n_n none n (shapeCast _ (extractStridedSlice S1x1x1024x5632 ![0, 0, 0, 0] w slices_S2x2x1024x5632_S1x1x1024x5632_0_0_0_0) shapeCasts_S1x1x1024x5632_S1024x5632)

def yP (g : FVec Ideal S16x256x5632 .f32) (h : FVec Ideal S16x256x1024 .f32) (mods : FVec Ideal S3x9x1024 .f32) (wd : FVec Ideal S2x2x2816x1024 .f32) : FVec Ideal S16x256x1024 .f32 :=
  addf h (mulf (broadcastInDim S16x256x1024 ![0, 1, 2] bcast_S1x1x1024_S16x256x1024_0_1_2 (mulf (broadcastInDim S1x1x1024 ![] bcast_S_S1x1x1024 (constant S_ .f32 0x3F000000#32)) (broadcastInDim S1x1x1024 ![0, 2] bcast_S1x1024_S1x1x1024_0_2 (shapeCast _ (extractStridedSlice S1x1x1024 ![0, 2, 0] (extractStridedSlice S1x9x1024 ![0, 0, 0] mods slices_S3x9x1024_S1x9x1024_0_0_0) slices_S1x9x1024_S1x1x1024_0_2_0) shapeCasts_S1x1x1024_S1x1024)))) (Host.dotGeneral dot_S16x256x2816_S2816x1024_S16x256x1024_2_0_01_1_n_n none (mulf (mulf (extractStridedSlice S16x256x2816 ![0, 0, 0] g slices_S16x256x5632_S16x256x2816_0_0_0) (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf (extractStridedSlice S16x256x2816 ![0, 0, 0] g slices_S16x256x5632_S16x256x2816_0_0_0)))))) (extractStridedSlice S16x256x2816 ![0, 0, 2816] g slices_S16x256x5632_S16x256x2816_0_0_2816)) (shapeCast _ (extractStridedSlice S1x1x2816x1024 ![0, 0, 0, 0] wd slices_S2x2x2816x1024_S1x1x2816x1024_0_0_0_0) shapeCasts_S1x1x2816x1024_S2816x1024)))

def oP (y : FVec Ideal S16x256x1024 .f32) : FVec Ideal S4096x1024 .f32 :=
  shapeCast _ y shapeCasts_S16x256x1024_S4096x1024

def nS (h : FVec Ideal S2x2048x1024 .f32) (mods : FVec Ideal S3x9x1024 .f32) (ng : FVec Ideal S2x3x1024 .f32) : FVec Ideal S2x2048x1024 .f32 :=
  addf (mulf (mulf (mulf h (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf h h) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ (extractStridedSlice S1x1x1024 ![0, 0, 0] ng slices_S2x3x1024_S1x1x1024_0_0_0) shapeCasts_S1x1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (extractStridedSlice S2x9x1024 ![1, 0, 0] mods slices_S3x9x1024_S2x9x1024_1_0_0) slices_S2x9x1024_S2x1x1024_0_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 0, 0] (extractStridedSlice S2x9x1024 ![1, 0, 0] mods slices_S3x9x1024_S2x9x1024_1_0_0) slices_S2x9x1024_S2x1x1024_0_0_0) shapeCasts_S2x1x1024_S2x1024)))

def uS (n : FVec Ideal S2x2048x1024 .f32) (w : FVec Ideal S2x2x1024x5632 .f32) : FVec Ideal S2x2048x5632 .f32 :=
  Host.dotGeneral dot_S2x2048x1024_S1024x5632_S2x2048x5632_2_0_01_1_n_n none n (shapeCast _ (extractStridedSlice S1x1x1024x5632 ![0, 0, 0, 0] w slices_S2x2x1024x5632_S1x1x1024x5632_0_0_0_0) shapeCasts_S1x1x1024x5632_S1024x5632)

def yS (g : FVec Ideal S2x2048x5632 .f32) (h : FVec Ideal S2x2048x1024 .f32) (mods : FVec Ideal S3x9x1024 .f32) (wd : FVec Ideal S2x2x2816x1024 .f32) : FVec Ideal S2x2048x1024 .f32 :=
  addf h (mulf (broadcastInDim S2x2048x1024 ![0, 1, 2] bcast_S2x1x1024_S2x2048x1024_0_1_2 (mulf (broadcastInDim S2x1x1024 ![] bcast_S_S2x1x1024 (constant S_ .f32 0x3F000000#32)) (broadcastInDim S2x1x1024 ![0, 2] bcast_S2x1024_S2x1x1024_0_2 (shapeCast _ (extractStridedSlice S2x1x1024 ![0, 2, 0] (extractStridedSlice S2x9x1024 ![1, 0, 0] mods slices_S3x9x1024_S2x9x1024_1_0_0) slices_S2x9x1024_S2x1x1024_0_2_0) shapeCasts_S2x1x1024_S2x1024)))) (Host.dotGeneral dot_S2x2048x2816_S2816x1024_S2x2048x1024_2_0_01_1_n_n none (mulf (mulf (extractStridedSlice S2x2048x2816 ![0, 0, 0] g slices_S2x2048x5632_S2x2048x2816_0_0_0) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (extractStridedSlice S2x2048x2816 ![0, 0, 0] g slices_S2x2048x5632_S2x2048x2816_0_0_0)))))) (extractStridedSlice S2x2048x2816 ![0, 0, 2816] g slices_S2x2048x5632_S2x2048x2816_0_0_2816)) (shapeCast _ (extractStridedSlice S1x1x2816x1024 ![0, 0, 0, 0] wd slices_S2x2x2816x1024_S1x1x2816x1024_0_0_0_0) shapeCasts_S1x1x2816x1024_S2816x1024)))

def oS (y : FVec Ideal S2x2048x1024 .f32) : FVec Ideal S4096x1024 .f32 :=
  shapeCast _ y shapeCasts_S2x2048x1024_S4096x1024

variable (m : (ℓ : Loc nD τ sig) → Buf (Elt Ideal) ℓ) (c : Dev nD)

theorem res_eq : Value.res_main_v94 m c
    = concatenate S8192x1024 0 [⟨S4096x1024, (oP (yP (uP (nP (m ((c.tc : Thread nD τ).loc main_arg0)) (m ((c.tc : Thread nD τ).loc main_arg2)) (m ((c.tc : Thread nD τ).loc main_arg3))) (m ((c.tc : Thread nD τ).loc main_arg4))) (m ((c.tc : Thread nD τ).loc main_arg0)) (m ((c.tc : Thread nD τ).loc main_arg2)) (m ((c.tc : Thread nD τ).loc main_arg5))))⟩, ⟨S4096x1024, (oS (yS (uS (nS (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1)) (m ((c.tc : Thread nD τ).loc main_arg2)) (m ((c.tc : Thread nD τ).loc main_arg5))))⟩] concatenates_S4096x1024_S4096x1024_S8192x1024_d0 := rfl

/-- The prompts' half of the result at a token. -/
theorem oP_at (h mods ng wu wd) (r : Fin 4096) (j : Fin 1024) :
    oP (yP (uP (nP h mods ng) wu) h mods wd) (ix2 r j)
      = Rows.half (fun k => h (ix3 ⟨r.val / 256, by omega⟩ ⟨r.val % 256, by omega⟩ k)) (fun k => mods (ix3 0 2 k))
        (fun j => ∑ x : Fin 2816, Rows.unit (Rows.nrm (fun k => h (ix3 ⟨r.val / 256, by omega⟩ ⟨r.val % 256, by omega⟩ k)) (fun k => ng (ix3 0 0 k)) (fun k => mods (ix3 0 1 k)) (fun k => mods (ix3 0 0 k)))
          (fun k => wu (ix4 0 0 k ⟨x.val, by omega⟩)) (fun k => wu (ix4 0 0 k ⟨2816 + x.val, by omega⟩)) * wd (ix4 0 0 x j))
        j := by
  pointwise [oP, yP, uP, nP, Rows.half, Rows.unit, Rows.nrm, Rows.rms, Rows.sigm]

/-- The sampled sequences' half of the result at a token. -/
theorem oS_at (h mods ng wu wd) (r : Fin 4096) (j : Fin 1024) :
    oS (yS (uS (nS h mods ng) wu) h mods wd) (ix2 r j)
      = Rows.half (fun k => h (ix3 ⟨r.val / 2048, by omega⟩ ⟨r.val % 2048, by omega⟩ k)) (fun k => mods (ix3 ⟨1 + r.val / 2048, by omega⟩ 2 k))
        (fun j => ∑ x : Fin 2816, Rows.unit (Rows.nrm (fun k => h (ix3 ⟨r.val / 2048, by omega⟩ ⟨r.val % 2048, by omega⟩ k)) (fun k => ng (ix3 0 0 k)) (fun k => mods (ix3 ⟨1 + r.val / 2048, by omega⟩ 1 k)) (fun k => mods (ix3 ⟨1 + r.val / 2048, by omega⟩ 0 k)))
          (fun k => wu (ix4 0 0 k ⟨x.val, by omega⟩)) (fun k => wu (ix4 0 0 k ⟨2816 + x.val, by omega⟩)) * wd (ix4 0 0 x j))
        j := by
  pointwise [oS, yS, uS, nS, Rows.half, Rows.unit, Rows.nrm, Rows.rms, Rows.sigm]

/-- The reference's result at a token and a column. -/
theorem res_at (r : Fin 8192) (j : Fin 1024) : Value.res_out0 m c (ix2 r j)
    = Rows.halfAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r j := by
  show Value.res_main_v94 m c (ix2 r j) = _
  rw [res_eq]
  pointwise
  by_cases h : r.val < 4096
  · rw [dif_pos h]
    refine (oP_at _ _ _ _ _ ⟨r.val, h⟩ j).trans ?_
    have e : r.val / 256 % 16 = r.val / 256 := by omega
    have hh : ∀ k : Fin 1024, (m ((c.tc : Thread nD τ).loc main_arg0)) (ix3 ⟨r.val / 256, by omega⟩ ⟨r.val % 256, by omega⟩ k) = Rows.hrow (m ((c.tc : Thread nD τ).loc main_arg0)) (m ((c.tc : Thread nD τ).loc main_arg1)) r k := fun k => by
      simp only [Rows.hrow, h, if_true, e]
    simp only [Rows.halfAt, Rows.halfN, Rows.grp, h, if_true]
    exact Rows.half_congr hh (fun _ => rfl) (fun j => Finset.sum_congr rfl fun x _ => congrArg (· * _) (Rows.unit_congr (Rows.nrm_congr hh (fun _ => rfl) (fun _ => rfl) (fun _ => rfl)) (fun _ => rfl) (fun _ => rfl))) rfl
  · rw [dif_neg h]
    refine (oS_at _ _ _ _ _ ⟨r.val - 4096, by omega⟩ j).trans ?_
    have hh : ∀ k : Fin 1024, (m ((c.tc : Thread nD τ).loc main_arg1)) (ix3 ⟨(r.val - 4096) / 2048, by omega⟩ ⟨(r.val - 4096) % 2048, by omega⟩ k) = Rows.hrow (m ((c.tc : Thread nD τ).loc main_arg0)) (m ((c.tc : Thread nD τ).loc main_arg1)) r k := fun k => by
      simp only [Rows.hrow, h, if_false]
    simp only [Rows.halfAt, Rows.halfN, Rows.grp, h, if_false]
    exact Rows.half_congr hh (fun _ => rfl) (fun j => Finset.sum_congr rfl fun x _ => congrArg (· * _) (Rows.unit_congr (Rows.nrm_congr hh (fun _ => rfl) (fun _ => rfl) (fun _ => rfl)) (fun _ => rfl) (fun _ => rfl))) rfl

end Cert.Reference4Ideal.Half

end
-- ==== Proof.HalfKernel.lean ====
/- Hand-written, untrusted: what the first half step leaves in its result array, at a token and a column. -/
module

public import proofs.«01_k».proof.Proof.Gen.Kernel4Ideal.Frame
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Half

open Cert.Kernel4Ideal Cert.Kernel4Ideal.Gen

/-- The normed row the body keeps. -/
theorem norm_at (md : FVec Ideal S1x9x1024 .f32) (h : FVec Ideal S1024x1024 .f32) (ng : FVec Ideal S1x1024 .f32)
    (r k : Fin 1024) :
    k0_pay4 (F := Ideal) md h ng (ix2 r k)
      = Rows.nrm (fun k => h (ix2 r k)) (fun k => ng (ix2 0 k)) (fun k => md (ix3 0 1 k)) (fun k => md (ix3 0 0 k)) k := by
  pointwise [k0_pay4, k0_pay3, Rows.nrm, Rows.rms]

/-- The body's partial sum: its blocks' hidden units against the block of the down weights. -/
theorem part_at (n : FVec Ideal S1024x1024 .bf16) (wg wu : FVec Ideal S1x1x1024x256 .f32) (acc : FVec Ideal S1024x1024 .f32)
    (wd : FVec Ideal S1x1x256x1024 .f32) (r j : Fin 1024) :
    k0_pay1 (F := Ideal) n (k0_pay6 n wg) wu acc wd (ix2 r j)
      = acc (ix2 r j) + ∑ x : Fin 256, Rows.unit (fun k => n (ix2 r k)) (fun k => wg (ix4 0 0 k x)) (fun k => wu (ix4 0 0 k x))
          * wd (ix4 0 0 x j) := by
  pointwise [k0_pay1, k0_pay6, Rows.unit, Rows.sigm]
  simp only [zero_sub]

theorem zero_at (r j : Fin 1024) : k0_pay5 (F := Ideal) (ix2 r j) = 0 := by
  pointwise [k0_pay5]

/-- The body's result at the last block. -/
theorem tail_at (md : FVec Ideal S1x9x1024 .f32) (h acc : FVec Ideal S1024x1024 .f32) (r j : Fin 1024) :
    k0_pay2 (F := Ideal) (k0_pay3 md) h acc (ix2 r j)
      = Rows.half (fun k => h (ix2 r k)) (fun k => md (ix3 0 2 k)) (fun k => acc (ix2 r k)) j := by
  pointwise [k0_pay2, k0_pay3, Rows.half]

variable (m : (ℓ : Loc nD τ sig) → Buf (Elt Ideal) ℓ)

theorem idx_val : ∀ t : Fin cfg0.N, win0_0.index t = ![t.val / 11, 0]
    ∧ win0_1.index t = ![0, 0, 0]
    ∧ win0_2.index t = ![0, 0]
    ∧ win0_3.index t = ![0, 0, 0, t.val % 11]
    ∧ win0_4.index t = ![0, 0, 0, (t.val % 11) + 11]
    ∧ win0_5.index t = ![0, 0, t.val % 11, 0]
    ∧ win0_6.index t = ![t.val / 11, 0] :=
  (by decide +kernel : ∀ t : Fin grid0.N, _)

theorem off_val : ∀ t : Fin cfg0.N,
    k0_off1 (grid0.coords t) = ![if t.val / 11 < 4 then 0 else 1 + (t.val / 11 - 4) / 2, 0, 0] :=
  (by decide +kernel : ∀ t : Fin grid0.N, _)

theorem cat_at (a b : FVec Ideal S4096x1024 .f32) (r : Fin 8192) (k : Fin 1024) :
    concatenate S8192x1024 0 [⟨S4096x1024, a⟩, ⟨S4096x1024, b⟩] concatenates_S4096x1024_S4096x1024_S8192x1024_d0 (ix2 r k)
      = if h : r.val < 4096 then a (ix2 ⟨r.val, h⟩ k) else b (ix2 ⟨r.val - 4096, by omega⟩ k) := by
  pointwise

theorem prompt_at (a : FVec Ideal S16x256x1024 .f32) (r : Fin 4096) (k : Fin 1024) :
    shapeCast S4096x1024 a shapeCasts_S16x256x1024_S4096x1024 (ix2 r k)
      = a (ix3 ⟨r.val / 256, by omega⟩ ⟨r.val % 256, by omega⟩ k) := by
  pointwise

theorem sample_at (a : FVec Ideal S2x2048x1024 .f32) (r : Fin 4096) (k : Fin 1024) :
    shapeCast S4096x1024 a shapeCasts_S2x2048x1024_S4096x1024 (ix2 r k)
      = a (ix3 ⟨r.val / 2048, by omega⟩ ⟨r.val % 2048, by omega⟩ k) := by
  pointwise

/-- The staged hidden state: the prompts' rows, then the sampled sequences'. -/
theorem hidden_at (c : Dev nD) (r : Fin 8192) (k : Fin 1024) : V m c main_v2 (ix2 r k)
    = Rows.hrow (m ((c : Thread nD τ).loc main_arg0)) (m ((c : Thread nD τ).loc main_arg1)) r k := by
  entry_read
  refine (cat_at _ _ r k).trans ?_
  by_cases h : r.val < 4096
  · have e : r.val / 256 % 16 = r.val / 256 := by omega
    rw [dif_pos h]
    refine (prompt_at _ ⟨r.val, h⟩ k).trans ?_
    simp only [Rows.hrow, h, if_true, e]
  · rw [dif_neg h]
    refine (sample_at _ ⟨r.val - 4096, by omega⟩ k).trans ?_
    simp only [Rows.hrow, h, if_false]

/-- The loaded modulation, at a point. -/
theorem mods_at (c : Dev nD) (t : Fin cfg0.N) (r : Fin 8192) (hr : r.val / 1024 = t.val / 11) (i : Fin 9) (k : Fin 1024) (inb) :
    View.ld (iblk m c 1 t) (Rect.unit (s := S3x9x1024) (k0_off1 (grid0.coords t)) ![1, 9, 1024] inb) (ix3 0 i k)
      = m ((c : Thread nD τ).loc main_arg2) (ix3 (Rows.grp r) i k) := by
  have hg : (Rows.grp r : ℕ) = if t.val / 11 < 4 then 0 else 1 + (t.val / 11 - 4) / 2 := by
    unfold Rows.grp
    by_cases h : r.val < 4096
    · rw [if_pos h, if_pos (by omega)]; rfl
    · rw [if_neg h, if_neg (by omega)]
      show 1 + (r.val - 4096) / 2048 = _
      omega
  pointwise
  blk_simp [iblk, idx_val t, off_val t]
  blk_ext [V_main_arg2 m c, idx_val t, hg]

/-- A row of the staged hidden state's block. -/
theorem hblk_at (c : Dev nD) (t : Fin cfg0.N) (r : Fin 8192) (y0 : Fin 1024) (hr : r.val = t.val / 11 * 1024 + y0.val) (k : Fin 1024) :
    iblk m c 0 t (ix2 y0 k : S1024x1024.Idx)
      = Rows.hrow (m ((c : Thread nD τ).loc main_arg0)) (m ((c : Thread nD τ).loc main_arg1)) r k := by
  refine Eq.trans ?_ (hidden_at m c r k)
  blk_ext [iblk, idx_val t, hr]

theorem ng_at (c : Dev nD) (t : Fin cfg0.N) (k : Fin 1024) :
    iblk m c 2 t (ix2 0 k : S1x1024.Idx) = m ((c : Thread nD τ).loc main_arg3) (ix3 0 0 k) := by
  blk_point [iblk, idx_val t]

theorem wg_at (c : Dev nD) (t : Fin cfg0.N) (k : Fin 1024) (x : Fin 256) (l : Fin 5632) (hl : l.val = t.val % 11 * 256 + x.val) :
    iblk m c 3 t (ix4 0 0 k x : S1x1x1024x256.Idx) = m ((c : Thread nD τ).loc main_arg4) (ix4 0 0 k l) := by
  blk_point [iblk, idx_val t, hl]

theorem wu_at (c : Dev nD) (t : Fin cfg0.N) (k : Fin 1024) (x : Fin 256) (l : Fin 5632)
    (hl : l.val = 2816 + (t.val % 11 * 256 + x.val)) :
    iblk m c 4 t (ix4 0 0 k x : S1x1x1024x256.Idx) = m ((c : Thread nD τ).loc main_arg4) (ix4 0 0 k l) := by
  blk_point [iblk, idx_val t, hl]

theorem wd_at (c : Dev nD) (t : Fin cfg0.N) (x : Fin 256) (j : Fin 1024) (l : Fin 2816) (hl : l.val = t.val % 11 * 256 + x.val) :
    iblk m c 5 t (ix4 0 0 x j : S1x1x256x1024.Idx) = m ((c : Thread nD τ).loc main_arg5) (ix4 0 0 l j) := by
  blk_point [iblk, idx_val t, hl]

/-- The token a block's row is. -/
def row (t : Fin cfg0.N) (y0 : Fin 1024) : Fin 8192 :=
  ⟨t.val / 11 * 1024 + y0.val, by have := t.isLt; have e : cfg0.N = 88 := N_0; omega⟩

/-- The normed row at a token, over the call's arguments. -/
abbrev N (c : Dev nD) (r : Fin 8192) : Fin 1024 → EReal :=
  Rows.halfN (m ((c : Thread nD τ).loc main_arg0)) (m ((c : Thread nD τ).loc main_arg1)) (m ((c : Thread nD τ).loc main_arg2))
    (m ((c : Thread nD τ).loc main_arg3)) r

theorem fresh_at (c : Dev nD) (t : Fin cfg0.N) (r k : Fin 1024) (inb) :
    k0_pay4 (View.ld (iblk m c 1 t) (Rect.unit (s := S3x9x1024) (k0_off1 (grid0.coords t)) ![1, 9, 1024] inb)) (iblk m c 0 t)
      (iblk m c 2 t) (ix2 r k) = N m c (row t r) k :=
  (norm_at _ _ _ r k).trans
    (Rows.nrm_congr (hblk_at m c t (row t r) r rfl) (ng_at m c t) (fun k => mods_at m c t (row t r) (by simp only [row]; omega) 1 k _)
      (fun k => mods_at m c t (row t r) (by simp only [row]; omega) 0 k _) k)

/-- The kept normed rows: at every point of a run the run's own. -/
theorem kept_at (c : Dev nD) (n : ℕ) (h : n < cfg0.N) (r k : Fin 1024) :
    (outsAt0 m c n h).2.1 (ix2 r k : S1024x1024.Idx) = N m c (row ⟨n, h⟩ r) k := by
  induction n with
  | zero =>
    rw [outsAt0_A m c ⟨0, h⟩ rfl (by show ¬0 % 11 = 10; omega)]; frame_out
    exact fresh_at m c ⟨0, h⟩ r k _
  | succ n ih =>
    by_cases h0 : (n + 1) % 11 = 0
    · rw [outsAt0_A m c ⟨n + 1, h⟩ h0 (by show ¬(n + 1) % 11 = 10; omega)]; frame_out
      exact fresh_at m c ⟨n + 1, h⟩ r k _
    · have e : row ⟨n + 1, h⟩ r = row ⟨n, Nat.lt_of_succ_lt h⟩ r := by
        apply Fin.ext; simp only [row]; omega
      rw [e, ← ih (Nat.lt_of_succ_lt h)]
      by_cases h1 : (n + 1) % 11 = 10
      · rw [outsAt0_C m c ⟨n + 1, h⟩ h0 h1]; frame_out; rfl
      · rw [outsAt0_B m c ⟨n + 1, h⟩ h0 h1]; frame_out; rfl

/-- A block's share of the feed-forward layer's sum. -/
def share (c : Dev nD) (t : Fin cfg0.N) (i : S1024x1024.Idx) : EReal :=
  ∑ x : Fin 256, Rows.unit (N m c (row t (i 0))) (fun k => (iblk m c 3 t : FVec Ideal S1x1x1024x256 .f32) (ix4 0 0 k x))
    (fun k => (iblk m c 4 t : FVec Ideal S1x1x1024x256 .f32) (ix4 0 0 k x)) * (iblk m c 5 t : FVec Ideal S1x1x256x1024 .f32) (ix4 0 0 x (i 1))

theorem step_at (c : Dev nD) (t : Fin cfg0.N) (n : FVec Ideal S1024x1024 .bf16) (acc : FVec Ideal S1024x1024 .f32)
    (r j : Fin 1024) (hn : ∀ k, n (ix2 r k) = N m c (row t r) k) :
    k0_pay1 n (k0_pay6 n (iblk m c 3 t)) (iblk m c 4 t) acc (iblk m c 5 t) (ix2 r j) = acc (ix2 r j) + share m c t (ix2 r j) :=
  (part_at n _ _ acc _ r j).trans
    (congrArg (acc (ix2 r j) + ·) (Finset.sum_congr rfl fun x _ => congrArg (· * _) (Rows.unit_congr hn (fun _ => rfl) (fun _ => rfl))))

theorem prev_at (c : Dev nD) (t : Fin cfg0.N) (h0 : ¬t.val % 11 = 0) (h) (r k : Fin 1024) :
    (outsAt0 m c (t.val - 1) h).2.1 (ix2 r k : S1024x1024.Idx) = N m c (row t r) k := by
  have e : row t r = row ⟨t.val - 1, h⟩ r := by
    apply Fin.ext; simp only [row]; omega
  rw [e]
  exact kept_at m c (t.val - 1) h r k

theorem acc_reset (c : Dev nD) (t : Fin cfg0.N) (h0 : t.val % 11 = 0) (i : S1024x1024.Idx) :
    (outsAt0 m c t.val t.isLt).2.2 i = 0 + share m c t i := by
  obtain ⟨r, j, rfl⟩ : ∃ r j : Fin 1024, i = ix2 r j := ⟨i 0, i 1, eq_ix2 i⟩
  rw [outsAt0_A m c t h0 (by omega)]; frame_out
  refine (step_at m c t _ _ r j (fun k => fresh_at m c t r k _)).trans ?_
  rw [zero_at]

theorem acc_step (c : Dev nD) (t : Fin cfg0.N) (h0 : ¬t.val % 11 = 0) (i : S1024x1024.Idx) :
    (outsAt0 m c t.val t.isLt).2.2 i
      = (outsAt0 m c (t.val - 1) (Nat.lt_of_le_of_lt (Nat.sub_le _ _) t.isLt)).2.2 i + share m c t i := by
  obtain ⟨r, j, rfl⟩ : ∃ r j : Fin 1024, i = ix2 r j := ⟨i 0, i 1, eq_ix2 i⟩
  by_cases h1 : t.val % 11 = 10
  · rw [outsAt0_C m c t h0 h1]; frame_out
    rw [read_unread_whole, read_unread_whole]
    exact step_at m c t _ _ r j (prev_at m c t h0 _ r)
  · rw [outsAt0_B m c t h0 h1]; frame_out
    rw [read_unread_whole, read_unread_whole]
    exact step_at m c t _ _ r j (prev_at m c t h0 _ r)

/-- The accumulated sum at a run's last point. -/
theorem acc_flush (c : Dev nD) (t : Fin cfg0.N) (hf : t.val % 11 = 10) (r j : Fin 1024) :
    (outsAt0 m c t.val t.isLt).2.2 (ix2 r j : S1024x1024.Idx)
      = ∑ x : Fin 2816, Rows.unit (N m c (row t r)) (fun k => m ((c : Thread nD τ).loc main_arg4) (ix4 0 0 k ⟨x.val, by omega⟩))
          (fun k => m ((c : Thread nD τ).loc main_arg4) (ix4 0 0 k ⟨2816 + x.val, by omega⟩))
          * m ((c : Thread nD τ).loc main_arg5) (ix4 0 0 x j) := by
  rw [Pipeline.eq_sum_fin_of_reset_step_apply_of_flush (fun n h => (outsAt0 m c n h).2.2) 11 (fun _ => 0) (share m c)
    (acc_reset m c) (acc_step m c) t hf (ix2 r j), zero_add]
  refine Fin.sum_mul_add_congr fun s x hl => ?_
  have hs : (⟨11 * (t.val / 11) + s.val, Pipeline.run_point_lt_of_flush t hf s⟩ : Fin cfg0.N).val % 11 = s.val := by
    show (11 * (t.val / 11) + s.val) % 11 = s.val
    omega
  have er : row ⟨11 * (t.val / 11) + s.val, Pipeline.run_point_lt_of_flush t hf s⟩ r = row t r := by
    apply Fin.ext; simp only [row]; omega
  refine congrArg₂ (· * ·) (Rows.unit_congr (fun k => congrArg (N m c · k) er) (fun k => wg_at m c _ k x _ ?_) (fun k => wu_at m c _ k x _ ?_)) (wd_at m c _ x j _ ?_)
  all_goals rw [hs]

theorem out_at (c : Dev nD) (t : Fin cfg0.N) (hf : t.val % 11 = 10) (r j : Fin 1024) :
    (outsAt0 m c t.val t.isLt).1 (ix2 r j : S1024x1024.Idx)
      = Rows.halfAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) j := by
  have ha := fun j => acc_flush m c t hf r j
  rw [outsAt0_C m c t (by omega) hf] at ha ⊢
  revert ha
  frame_out
  intro ha
  exact (tail_at _ _ _ r j).trans (Rows.half_congr (hblk_at m c t (row t r) r rfl)
    (fun k => mods_at m c t (row t r) (by simp only [row]; omega) 2 k _) ha rfl)

theorem final (c : Dev nD) : (dats m 0 c).arrAt 6 (cfgs 0).N
    = fun i : S8192x1024.Idx => Rows.halfAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp; rw [after0_6]
  have ey : y = (ix2 (y 0) (y 1) : S1024x1024.Idx) := eq_ix2 y
  rw [ey]
  refine (out_at m c t ((flush0_6 t).mp hf) (y 0) (y 1)).trans ?_
  have hr : (((View.whole main_v6).slice (win0_6.rect t)).emb (ix2 (y 0) (y 1) : S1024x1024.Idx) 0 : Fin 8192) = row t (y 0) := by
    apply Fin.ext; simp only [row]; blk_simp [idx_val t]
  have hj : (((View.whole main_v6).slice (win0_6.rect t)).emb (ix2 (y 0) (y 1) : S1024x1024.Idx) 1 : Fin 1024) = y 1 := by
    apply Fin.ext; blk_simp [idx_val t]
  exact congrArg₂ (Rows.halfAt _ _ _ _ _ _) hr.symm hj.symm

end Cert.Kernel4Ideal.Half

end
-- ==== Proof.HalfClaim.lean ====
/- Hand-written, untrusted: the two programs of the call leave the same result. -/
module

public import proofs.«01_k».proof.Defs
public import proofs.«01_k».proof.Proof.HalfRef
public import proofs.«01_k».proof.Proof.HalfKernel
public import proofs.«01_k».proof.Proof.Gen.Kernel4Ideal.Value
public import Idealize.ShloMosaic.Lib.Claim

@[expose] public section

set_option maxRecDepth 16384

noncomputable section

open Idealize.ShloMosaic Idealize.ShloMosaic.TcCoe Idealize.SL.Sem

namespace Cert.Half

theorem algebraic : Cert.algebraic_Kernel4Ideal_Reference4Ideal := by
  pair_intro
  · run_from Cert.Kernel4Ideal.Gen.run_main m g
  · run_from Cert.Reference4Ideal.Value.run m' g'
    obtain ⟨a0, a1, a2, a3, a4, a5⟩ := hagree c
    rw [Cert.Kernel4Ideal.Half.final m c]
    funext i
    obtain ⟨r, j, rfl⟩ : ∃ (r : Fin 8192) (j : Fin 1024), i = ix2 r j := ⟨i 0, i 1, eq_ix2 i⟩
    refine (Cert.Reference4Ideal.Half.res_at m' c r j).trans ?_
    rw [a0, a1, a2, a3, a4, a5]
    rfl

end Cert.Half

end
-- ==== Proof.ProjRows.lean ====
/- Hand-written, untrusted: the projections into the mixers, over the extended reals and over no program: the input
   projection's columns, the normed latent row, and the values' columns. -/
module

public import proofs.«01_k».proof.Proof.Rows

@[expose] public section

set_option maxRecDepth 16384

noncomputable section

open Idealize.ShloMosaic
open scoped BigOperators

namespace Cert.Rows

/-- A row against a column of the input projection. -/
def cols (n : Fin 1024 → EReal) (w : Fin 1024 → Fin 4512 → EReal) (x : Fin 4512) : EReal := ∑ k, n k * w k x

/-- The latent row over its root mean square. -/
def latent (a g : Fin 128 → EReal) (k : Fin 128) : EReal :=
  a k * Ideal.rsqrt (Ideal.div (∑ x, a x * a x) (Ideal.ofBits .f32 0x43000000#32) + Ideal.ofBits .f32 0x358637BD#32) * g k

/-- A column of a head's values: the second half of the head's 128 columns. -/
def valueCol (j : Fin 512) : Fin 1024 := ⟨j.val / 64 * 128 + (64 + j.val % 64), by omega⟩

/-- The mixers' normed row at a token. -/
def projN (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨2, ![3, 1024]⟩ .f32) (r : Fin 8192) : Fin 1024 → EReal :=
  nrm (hrow hp hs r) (fun k => ng (ix2 1 k)) (fun k => mods (ix3 (grp r) 4 k)) (fun k => mods (ix3 (grp r) 3 k))

/-- The input projection at a token and a column, over the call's arguments. -/
def projAt (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨2, ![3, 1024]⟩ .f32)
    (w : FVec Ideal ⟨2, ![1024, 4512]⟩ .f32) (r : Fin 8192) (x : Fin 4512) : EReal :=
  cols (projN hp hs mods ng r) (fun k x => w (ix2 k x)) x

/-- The latent keys at a token and a column. -/
def ckvAt (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨2, ![3, 1024]⟩ .f32)
    (w : FVec Ideal ⟨2, ![1024, 4512]⟩ .f32) (g : FVec Ideal ⟨1, ![128]⟩ .f32) (r : Fin 8192) (j : Fin 128) : EReal :=
  latent (fun k => projAt hp hs mods ng w r ⟨1024 + k.val, by omega⟩) (fun k => g (ix1 k)) j

/-- The values at a token and a column. -/
def valAt (hp : FVec Ideal ⟨3, ![16, 256, 1024]⟩ .f32) (hs : FVec Ideal ⟨3, ![2, 2048, 1024]⟩ .f32)
    (mods : FVec Ideal ⟨3, ![3, 9, 1024]⟩ .f32) (ng : FVec Ideal ⟨2, ![3, 1024]⟩ .f32)
    (w : FVec Ideal ⟨2, ![1024, 4512]⟩ .f32) (g : FVec Ideal ⟨1, ![128]⟩ .f32) (wkv : FVec Ideal ⟨2, ![128, 1024]⟩ .f32)
    (r : Fin 8192) (j : Fin 512) : EReal :=
  ∑ x : Fin 128, ckvAt hp hs mods ng w g r x * wkv (ix2 x (valueCol j))

theorem cols_congr {n n' : Fin 1024 → EReal} {w w' : Fin 1024 → Fin 4512 → EReal} {x x' : Fin 4512} (en : ∀ k, n k = n' k)
    (ew : ∀ k x, w k x = w' k x) (ex : x = x') : cols n w x = cols n' w' x' := by
  simp only [cols, en, ew, ex]

theorem latent_congr {a a' g g' : Fin 128 → EReal} {k k' : Fin 128} (ea : ∀ k, a k = a' k) (eg : ∀ k, g k = g' k)
    (ek : k = k') : latent a g k = latent a' g' k' := by
  simp only [latent, ea, eg, ek]

end Cert.Rows

end
-- ==== Proof.ProjRef.lean ====
/- Hand-written, untrusted: what the projections' reference leaves in its four results, at a token and a column. -/
module

public import proofs.«01_k».proof.Proof.Gen.Reference5Ideal.Run
public import proofs.«01_k».proof.Proof.ProjRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Reference5Ideal.Proj

open Cert.Reference5Ideal Cert.Reference5Ideal.Gen

def nP (h : FVec Ideal S16x256x1024 .f32) (mods : FVec Ideal S3x9x1024 .f32) (ng : FVec Ideal S3x1024 .f32) : FVec Ideal S16x256x1024 .f32 :=
  addf (mulf (mulf (mulf h (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf h h) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![1, 0] ng slices_S3x1024_S1x1024_1_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 4, 0] (extractStridedSlice S1x9x1024 ![0, 0, 0] mods slices_S3x9x1024_S1x9x1024_0_0_0) slices_S1x9x1024_S1x1x1024_0_4_0) shapeCasts_S1x1x1024_S1x1024))))) (broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 3, 0] (extractStridedSlice S1x9x1024 ![0, 0, 0] mods slices_S3x9x1024_S1x9x1024_0_0_0) slices_S1x9x1024_S1x1x1024_0_3_0) shapeCasts_S1x1x1024_S1x1024)))

def pP (n : FVec Ideal S16x256x1024 .f32) (w : FVec Ideal S1024x4512 .f32) : FVec Ideal S16x256x4512 .f32 :=
  Host.dotGeneral dot_S16x256x1024_S1024x4512_S16x256x4512_2_0_01_1_n_n none n w

def hyP (p : FVec Ideal S16x256x4512 .f32) : FVec Ideal S4096x768 .f32 :=
  shapeCast _ (extractStridedSlice S16x256x768 ![0, 0, 0] p slices_S16x256x4512_S16x256x768_0_0_0) shapeCasts_S16x256x768_S4096x768

def krP (p : FVec Ideal S16x256x4512 .f32) : FVec Ideal S4096x32 .f32 :=
  shapeCast _ (extractStridedSlice S16x256x32 ![0, 0, 1152] p slices_S16x256x4512_S16x256x32_0_0_1152) shapeCasts_S16x256x32_S4096x32

def kaP (p : FVec Ideal S16x256x4512 .f32) : FVec Ideal S16x256x128 .f32 :=
  extractStridedSlice S16x256x128 ![0, 0, 1024] p slices_S16x256x4512_S16x256x128_0_0_1024

def latP (a : FVec Ideal S16x256x128 .f32) (g : FVec Ideal S128 .f32) : FVec Ideal S16x256x128 .f32 :=
  mulf (mulf a (broadcastInDim S16x256x128 ![0, 1, 2] bcast_S16x256x1_S16x256x128_0_1_2 (Host.rsqrt (addf (Host.divf (broadcastInDim S16x256x1 ![0, 1] bcast_S16x256_S16x256x1_0_1 (Host.reduceAdd (mulf a a) (constant S_ .f32 0x00000000#32) reducesTo_S16x256x128_S16x256_d2 h_S_)) (broadcastInDim S16x256x1 ![] bcast_S_S16x256x1 (constant S_ .f32 0x43000000#32))) (broadcastInDim S16x256x1 ![] bcast_S_S16x256x1 (constant S_ .f32 0x358637BD#32)))))) (broadcastInDim S16x256x128 ![0, 1, 2] bcast_S1x1x128_S16x256x128_0_1_2 (broadcastInDim S1x1x128 ![2] bcast_S128_S1x1x128_2 g))

def ckvP (a : FVec Ideal S16x256x128 .f32) (g : FVec Ideal S128 .f32) : FVec Ideal S4096x128 .f32 :=
  shapeCast _ (latP a g) shapeCasts_S16x256x128_S4096x128

def vP (k : FVec Ideal S16x256x128 .f32) (wkv : FVec Ideal S128x1024 .f32) : FVec Ideal S4096x512 .f32 :=
  shapeCast _ (extractStridedSlice S16x256x8x64 ![0, 0, 0, 64] (shapeCast _ (Host.dotGeneral dot_S16x256x128_S128x1024_S16x256x1024_2_0_01_1_n_n none k wkv) shapeCasts_S16x256x1024_S16x256x8x128) slices_S16x256x8x128_S16x256x8x64_0_0_0_64) shapeCasts_S16x256x8x64_S4096x512

def nS (h : FVec Ideal S2x2048x1024 .f32) (mods : FVec Ideal S3x9x1024 .f32) (ng : FVec Ideal S3x1024 .f32) : FVec Ideal S2x2048x1024 .f32 :=
  addf (mulf (mulf (mulf h (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf h h) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ (extractStridedSlice S1x1024 ![1, 0] ng slices_S3x1024_S1x1024_1_0) shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 4, 0] (extractStridedSlice S2x9x1024 ![1, 0, 0] mods slices_S3x9x1024_S2x9x1024_1_0_0) slices_S2x9x1024_S2x1x1024_0_4_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 3, 0] (extractStridedSlice S2x9x1024 ![1, 0, 0] mods slices_S3x9x1024_S2x9x1024_1_0_0) slices_S2x9x1024_S2x1x1024_0_3_0) shapeCasts_S2x1x1024_S2x1024)))

def pS (n : FVec Ideal S2x2048x1024 .f32) (w : FVec Ideal S1024x4512 .f32) : FVec Ideal S2x2048x4512 .f32 :=
  Host.dotGeneral dot_S2x2048x1024_S1024x4512_S2x2048x4512_2_0_01_1_n_n none n w

def hyS (p : FVec Ideal S2x2048x4512 .f32) : FVec Ideal S4096x768 .f32 :=
  shapeCast _ (extractStridedSlice S2x2048x768 ![0, 0, 0] p slices_S2x2048x4512_S2x2048x768_0_0_0) shapeCasts_S2x2048x768_S4096x768

def krS (p : FVec Ideal S2x2048x4512 .f32) : FVec Ideal S4096x32 .f32 :=
  shapeCast _ (extractStridedSlice S2x2048x32 ![0, 0, 1152] p slices_S2x2048x4512_S2x2048x32_0_0_1152) shapeCasts_S2x2048x32_S4096x32

def kaS (p : FVec Ideal S2x2048x4512 .f32) : FVec Ideal S2x2048x128 .f32 :=
  extractStridedSlice S2x2048x128 ![0, 0, 1024] p slices_S2x2048x4512_S2x2048x128_0_0_1024

def latS (a : FVec Ideal S2x2048x128 .f32) (g : FVec Ideal S128 .f32) : FVec Ideal S2x2048x128 .f32 :=
  mulf (mulf a (broadcastInDim S2x2048x128 ![0, 1, 2] bcast_S2x2048x1_S2x2048x128_0_1_2 (Host.rsqrt (addf (Host.divf (broadcastInDim S2x2048x1 ![0, 1] bcast_S2x2048_S2x2048x1_0_1 (Host.reduceAdd (mulf a a) (constant S_ .f32 0x00000000#32) reducesTo_S2x2048x128_S2x2048_d2 h_S_)) (broadcastInDim S2x2048x1 ![] bcast_S_S2x2048x1 (constant S_ .f32 0x43000000#32))) (broadcastInDim S2x2048x1 ![] bcast_S_S2x2048x1 (constant S_ .f32 0x358637BD#32)))))) (broadcastInDim S2x2048x128 ![0, 1, 2] bcast_S1x1x128_S2x2048x128_0_1_2 (broadcastInDim S1x1x128 ![2] bcast_S128_S1x1x128_2 g))

def ckvS (a : FVec Ideal S2x2048x128 .f32) (g : FVec Ideal S128 .f32) : FVec Ideal S4096x128 .f32 :=
  shapeCast _ (latS a g) shapeCasts_S2x2048x128_S4096x128

def vS (k : FVec Ideal S2x2048x128 .f32) (wkv : FVec Ideal S128x1024 .f32) : FVec Ideal S4096x512 .f32 :=
  shapeCast _ (extractStridedSlice S2x2048x8x64 ![0, 0, 0, 64] (shapeCast _ (Host.dotGeneral dot_S2x2048x128_S128x1024_S2x2048x1024_2_0_01_1_n_n none k wkv) shapeCasts_S2x2048x1024_S2x2048x8x128) slices_S2x2048x8x128_S2x2048x8x64_0_0_0_64) shapeCasts_S2x2048x8x64_S4096x512

/-- The prompts' input projection at a token and a column. -/
theorem pP_at (h mods ng w) (b : Fin 16) (t : Fin 256) (x : Fin 4512) :
    pP (nP h mods ng) w (ix3 b t x)
      = Rows.cols (Rows.nrm (fun k => h (ix3 b t k)) (fun k => ng (ix2 1 k)) (fun k => mods (ix3 0 4 k)) (fun k => mods (ix3 0 3 k)))
        (fun k x => w (ix2 k x)) x := by
  pointwise [pP, nP, Rows.cols, Rows.nrm, Rows.rms]

theorem latP_at (p g) (b : Fin 16) (t : Fin 256) (j : Fin 128) :
    latP (kaP p) g (ix3 b t j) = Rows.latent (fun k => p (ix3 b t ⟨1024 + k.val, by omega⟩)) (fun k => g (ix1 k)) j := by
  pointwise [latP, kaP, Rows.latent]

theorem hyP_at (p) (r : Fin 4096) (j : Fin 768) :
    hyP p (ix2 r j) = p (ix3 ⟨r.val / 256, by omega⟩ ⟨r.val % 256, by omega⟩ ⟨j.val, by omega⟩) := by
  pointwise [hyP]

theorem krP_at (p) (r : Fin 4096) (j : Fin 32) :
    krP p (ix2 r j) = p (ix3 ⟨r.val / 256, by omega⟩ ⟨r.val % 256, by omega⟩ ⟨1152 + j.val, by omega⟩) := by
  pointwise [krP]

theorem ckvP_at (a g) (r : Fin 4096) (j : Fin 128) :
    ckvP a g (ix2 r j) = latP a g (ix3 ⟨r.val / 256, by omega⟩ ⟨r.val % 256, by omega⟩ j) := by
  pointwise [ckvP]

theorem vP_at (k wkv) (r : Fin 4096) (j : Fin 512) :
    vP k wkv (ix2 r j)
      = ∑ x : Fin 128, k (ix3 ⟨r.val / 256, by omega⟩ ⟨r.val % 256, by omega⟩ x) * wkv (ix2 x (Rows.valueCol j)) := by
  pointwise [vP, Rows.valueCol]

/-- The sampled sequences' input projection at a token and a column. -/
theorem pS_at (h mods ng w) (b : Fin 2) (t : Fin 2048) (x : Fin 4512) :
    pS (nS h mods ng) w (ix3 b t x)
      = Rows.cols (Rows.nrm (fun k => h (ix3 b t k)) (fun k => ng (ix2 1 k)) (fun k => mods (ix3 ⟨1 + b.val, by omega⟩ 4 k)) (fun k => mods (ix3 ⟨1 + b.val, by omega⟩ 3 k)))
        (fun k x => w (ix2 k x)) x := by
  pointwise [pS, nS, Rows.cols, Rows.nrm, Rows.rms]

theorem latS_at (p g) (b : Fin 2) (t : Fin 2048) (j : Fin 128) :
    latS (kaS p) g (ix3 b t j) = Rows.latent (fun k => p (ix3 b t ⟨1024 + k.val, by omega⟩)) (fun k => g (ix1 k)) j := by
  pointwise [latS, kaS, Rows.latent]

theorem hyS_at (p) (r : Fin 4096) (j : Fin 768) :
    hyS p (ix2 r j) = p (ix3 ⟨r.val / 2048, by omega⟩ ⟨r.val % 2048, by omega⟩ ⟨j.val, by omega⟩) := by
  pointwise [hyS]

theorem krS_at (p) (r : Fin 4096) (j : Fin 32) :
    krS p (ix2 r j) = p (ix3 ⟨r.val / 2048, by omega⟩ ⟨r.val % 2048, by omega⟩ ⟨1152 + j.val, by omega⟩) := by
  pointwise [krS]

theorem ckvS_at (a g) (r : Fin 4096) (j : Fin 128) :
    ckvS a g (ix2 r j) = latS a g (ix3 ⟨r.val / 2048, by omega⟩ ⟨r.val % 2048, by omega⟩ j) := by
  pointwise [ckvS]

theorem vS_at (k wkv) (r : Fin 4096) (j : Fin 512) :
    vS k wkv (ix2 r j)
      = ∑ x : Fin 128, k (ix3 ⟨r.val / 2048, by omega⟩ ⟨r.val % 2048, by omega⟩ x) * wkv (ix2 x (Rows.valueCol j)) := by
  pointwise [vS, Rows.valueCol]

/-- The prompts' projection at a token of the whole batch. -/
theorem rowP (hp hs mods ng w) (r : Fin 8192) (h : r.val < 4096) (x : Fin 4512) :
    pP (nP hp mods ng) w (ix3 ⟨r.val / 256, by omega⟩ ⟨r.val % 256, by omega⟩ x) = Rows.projAt hp hs mods ng w r x := by
  refine (pP_at hp mods ng w _ _ x).trans ?_
  have e : r.val / 256 % 16 = r.val / 256 := by omega
  have hh : ∀ k : Fin 1024, hp (ix3 ⟨r.val / 256, by omega⟩ ⟨r.val % 256, by omega⟩ k) = Rows.hrow hp hs r k := fun k => by
    simp only [Rows.hrow, h, if_true, e]
  simp only [Rows.projAt, Rows.projN, Rows.grp, h, if_true]
  exact Rows.cols_congr (Rows.nrm_congr hh (fun _ => rfl) (fun _ => rfl) (fun _ => rfl)) (fun _ _ => rfl) rfl

/-- The sampled sequences' projection at a token of the whole batch. -/
theorem rowS (hp hs mods ng w) (r : Fin 8192) (h : ¬ r.val < 4096) (x : Fin 4512) :
    pS (nS hs mods ng) w (ix3 ⟨(r.val - 4096) / 2048, by omega⟩ ⟨(r.val - 4096) % 2048, by omega⟩ x)
      = Rows.projAt hp hs mods ng w r x := by
  refine (pS_at hs mods ng w _ _ x).trans ?_
  have hh : ∀ k : Fin 1024, hs (ix3 ⟨(r.val - 4096) / 2048, by omega⟩ ⟨(r.val - 4096) % 2048, by omega⟩ k) = Rows.hrow hp hs r k := fun k => by
    simp only [Rows.hrow, h, if_false]
  simp only [Rows.projAt, Rows.projN, Rows.grp, h, if_false]
  exact Rows.cols_congr (Rows.nrm_congr hh (fun _ => rfl) (fun _ => rfl) (fun _ => rfl)) (fun _ _ => rfl) rfl

/-- The mixing branch at a token and a column. -/
theorem hy_at (hp hs mods ng w) (r : Fin 8192) (j : Fin 768) :
    (concatenate S8192x768 0 [⟨S4096x768, hyP (pP (nP hp mods ng) w)⟩, ⟨S4096x768, hyS (pS (nS hs mods ng) w)⟩] concatenates_S4096x768_S4096x768_S8192x768_d0) (ix2 r j)
      = Rows.projAt hp hs mods ng w r ⟨j.val, by omega⟩ := by
  pointwise
  by_cases h : r.val < 4096
  · rw [dif_pos h]
    refine (hyP_at _ ⟨r.val, h⟩ j).trans ?_
    exact rowP hp hs mods ng w r h _
  · rw [dif_neg h]
    refine (hyS_at _ ⟨r.val - 4096, by omega⟩ j).trans ?_
    exact rowS hp hs mods ng w r h _

/-- The shared rotary columns at a token and a column. -/
theorem kr_at (hp hs mods ng w) (r : Fin 8192) (j : Fin 32) :
    (concatenate S8192x32 0 [⟨S4096x32, krP (pP (nP hp mods ng) w)⟩, ⟨S4096x32, krS (pS (nS hs mods ng) w)⟩] concatenates_S4096x32_S4096x32_S8192x32_d0) (ix2 r j)
      = Rows.projAt hp hs mods ng w r ⟨1152 + j.val, by omega⟩ := by
  pointwise
  by_cases h : r.val < 4096
  · rw [dif_pos h]
    refine (krP_at _ ⟨r.val, h⟩ j).trans ?_
    exact rowP hp hs mods ng w r h _
  · rw [dif_neg h]
    refine (krS_at _ ⟨r.val - 4096, by omega⟩ j).trans ?_
    exact rowS hp hs mods ng w r h _

theorem latRowP (hp hs mods ng w g) (r : Fin 8192) (h : r.val < 4096) (j : Fin 128) :
    latP (kaP (pP (nP hp mods ng) w)) g (ix3 ⟨r.val / 256, by omega⟩ ⟨r.val % 256, by omega⟩ j) = Rows.ckvAt hp hs mods ng w g r j :=
  (latP_at _ g _ _ j).trans (Rows.latent_congr (fun _ => rowP hp hs mods ng w r h _) (fun _ => rfl) rfl)

theorem latRowS (hp hs mods ng w g) (r : Fin 8192) (h : ¬ r.val < 4096) (j : Fin 128) :
    latS (kaS (pS (nS hs mods ng) w)) g (ix3 ⟨(r.val - 4096) / 2048, by omega⟩ ⟨(r.val - 4096) % 2048, by omega⟩ j)
      = Rows.ckvAt hp hs mods ng w g r j :=
  (latS_at _ g _ _ j).trans (Rows.latent_congr (fun _ => rowS hp hs mods ng w r h _) (fun _ => rfl) rfl)

/-- The latent keys at a token and a column. -/
theorem ckv_at (hp hs mods ng w g) (r : Fin 8192) (j : Fin 128) :
    (concatenate S8192x128 0 [⟨S4096x128, ckvP (kaP (pP (nP hp mods ng) w)) g⟩, ⟨S4096x128, ckvS (kaS (pS (nS hs mods ng) w)) g⟩] concatenates_S4096x128_S4096x128_S8192x128_d0) (ix2 r j)
      = Rows.ckvAt hp hs mods ng w g r j := by
  pointwise
  by_cases h : r.val < 4096
  · rw [dif_pos h]
    refine (ckvP_at _ _ ⟨r.val, h⟩ j).trans ?_
    exact latRowP hp hs mods ng w g r h _
  · rw [dif_neg h]
    refine (ckvS_at _ _ ⟨r.val - 4096, by omega⟩ j).trans ?_
    exact latRowS hp hs mods ng w g r h _

/-- The values at a token and a column. -/
theorem v_at (hp hs mods ng w g wkv) (r : Fin 8192) (j : Fin 512) :
    (truncf .bf16 (concatenate S8192x512 0 [⟨S4096x512, vP (latP (kaP (pP (nP hp mods ng) w)) g) wkv⟩, ⟨S4096x512, vS (latS (kaS (pS (nS hs mods ng) w)) g) wkv⟩] concatenates_S4096x512_S4096x512_S8192x512_d0) bitsLt_bf16_f32) (ix2 r j)
      = Rows.valAt hp hs mods ng w g wkv r j := by
  pointwise
  by_cases h : r.val < 4096
  · rw [dif_pos h]
    refine (vP_at _ _ ⟨r.val, h⟩ j).trans ?_
    exact Finset.sum_congr rfl fun x _ => by rw [latRowP hp hs mods ng w g r h x]
  · rw [dif_neg h]
    refine (vS_at _ _ ⟨r.val - 4096, by omega⟩ j).trans ?_
    exact Finset.sum_congr rfl fun x _ => by rw [latRowS hp hs mods ng w g r h x]

end Cert.Reference5Ideal.Proj

end
-- ==== Proof.ProjRun.lean ====
/- Untrusted: one grid step of the projections' call (`Kernel5Ideal`), run over its staging buffers. Taken over from the generated
   modules, with a larger budget for the declaration. -/
module

public import proofs.«01_k».proof.Proof.Gen.Kernel5Ideal.Frame.Runs

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) :
    Σ' (L16 : List (View.Piece (Elt F) S512x768 .f32)), Σ' (L17 : List (View.Piece (Elt F) S512x1024 .bf16)), Σ' (L18 : List (View.Piece (Elt F) S512x1024 .bf16)), Σ' (L19 : List (View.Piece (Elt F) S512x512 .bf16)), Σ' (L20 : List (View.Piece (Elt F) S512x128 .f32)), Σ' (L21 : List (View.Piece (Elt F) S512x32 .f32)), { L22 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_mixer_input_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, fun E K => ?run⟩
  case run =>
    simp only [cc0_mixer_input_proj_eq_skeleton]; unfold cc0_mixer_input_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.Kernel5Ideal.Gen

end
-- ==== Proof.ProjFrame.lean ====
/- Untrusted: what the projections' call (`Kernel5Ideal`) leaves after each grid step, and its frame. Taken over from the generated
   modules, over the run of `ProjRun.lean`. -/
module

public import proofs.«01_k».proof.Proof.ProjRun
public import Idealize.ShloMosaic.Lib.Claim

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 16 tile its block (1 store of `S512x768`, checked by the kernel's evaluation: Lib/Ring.lean `Piece.tiledL`, linear in the pieces, through a loop's `@[irreducible]` trip theorem too), so they cover it. -/
theorem cover0_A_16 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) (y : S512x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).1 S512x768.size (by sl_kernel_rfl) y

/-- What the run leaves in output 16's staging buffer: its pieces read back over junk. -/
def out0_A_16 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) : Vec F S512x768 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).1)

/-- The run's pieces for output 17 tile its block (1 store of `S512x1024`, checked by the kernel's evaluation: Lib/Ring.lean `Piece.tiledL`, linear in the pieces, through a loop's `@[irreducible]` trip theorem too), so they cover it. -/
theorem cover0_A_17 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.1 S512x1024.size (by sl_kernel_rfl) y

/-- What the run leaves in output 17's staging buffer: its pieces read back over junk. -/
def out0_A_17 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) : Vec F S512x1024 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.1)

/-- The run's pieces for output 18 tile its block (1 store of `S512x1024`, checked by the kernel's evaluation: Lib/Ring.lean `Piece.tiledL`, linear in the pieces, through a loop's `@[irreducible]` trip theorem too), so they cover it. -/
theorem cover0_A_18 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.1 S512x1024.size (by sl_kernel_rfl) y

/-- What the run leaves in output 18's staging buffer: its pieces read back over junk. -/
def out0_A_18 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) : Vec F S512x1024 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.1)

/-- The run's pieces for output 19 tile its block (1 store of `S512x512`, checked by the kernel's evaluation: Lib/Ring.lean `Piece.tiledL`, linear in the pieces, through a loop's `@[irreducible]` trip theorem too), so they cover it. -/
theorem cover0_A_19 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.1 S512x512.size (by sl_kernel_rfl) y

/-- What the run leaves in output 19's staging buffer: its pieces read back over junk. -/
def out0_A_19 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) : Vec F S512x512 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.1)

/-- The run's pieces for output 20 tile its block (1 store of `S512x128`, checked by the kernel's evaluation: Lib/Ring.lean `Piece.tiledL`, linear in the pieces, through a loop's `@[irreducible]` trip theorem too), so they cover it. -/
theorem cover0_A_20 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.1 S512x128.size (by sl_kernel_rfl) y

/-- What the run leaves in output 20's staging buffer: its pieces read back over junk. -/
def out0_A_20 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) : Vec F S512x128 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.1)

/-- The run's pieces for output 21 tile its block (1 store of `S512x32`, checked by the kernel's evaluation: Lib/Ring.lean `Piece.tiledL`, linear in the pieces, through a loop's `@[irreducible]` trip theorem too), so they cover it. -/
theorem cover0_A_21 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) (y : S512x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.2.1 S512x32.size (by sl_kernel_rfl) y

/-- What the run leaves in output 21's staging buffer: its pieces read back over junk. -/
def out0_A_21 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) : Vec F S512x32 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.2.1)

/-- The run's pieces for output 22 tile its block (1 store of `S512x512`, checked by the kernel's evaluation: Lib/Ring.lean `Piece.tiledL`, linear in the pieces, through a loop's `@[irreducible]` trip theorem too), so they cover it. -/
theorem cover0_A_22 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.2.2.1 S512x512.size (by sl_kernel_rfl) y

/-- What the run leaves in output 22's staging buffer: its pieces read back over junk. -/
def out0_A_22 (c : Dev nD) (i : grid0.Coords) (arg1 : Memref sig .tc .vmem S512x1024 .f32) (harg1 : arg1.IsWhole) (arg2 : Memref sig .tc .vmem S3x9x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S32x1024 .bf16) (harg11 : arg11.IsWhole) (arg12 : Memref sig .tc .vmem S256x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x32 .f32) (harg15 : arg15.IsWhole) (arg16 : Memref sig .tc .vmem S512x32 .f32) (harg16 : arg16.IsWhole) (arg17 : Memref sig .tc .vmem S512x768 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x512 .bf16) (harg20 : arg20.IsWhole) (arg21 : Memref sig .tc .vmem S512x128 .f32) (harg21 : arg21.IsWhole) (arg22 : Memref sig .tc .vmem S512x32 .f32) (harg22 : arg22.IsWhole) (arg23 : Memref sig .tc .vmem S512x512 .bf16) (harg23 : arg23.IsWhole)
    (x0 : Vec F S512x1024 .f32) (x1 : Vec F S3x9x1024 .f32) (x2 : Vec F S1x1024 .f32) (x3 : Vec F S1024x1664 .bf16) (x4 : Vec F S1x256 .f32) (x5 : Vec F S1x128 .f32) (x6 : Vec F S256x1024 .bf16) (x7 : Vec F S256x1024 .bf16) (x8 : Vec F S128x1024 .bf16) (x9 : Vec F S128x512 .bf16) (x10 : Vec F S32x1024 .bf16) (x11 : Vec F S256x512 .bf16) (x12 : Vec F S512x1024 .f32) (x13 : Vec F S512x1024 .f32) (x14 : Vec F S512x32 .f32) (x15 : Vec F S512x32 .f32) : Vec F S512x512 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S512x768 .f32 × Vec F S512x1024 .bf16 × Vec F S512x1024 .bf16 × Vec F S512x512 .bf16 × Vec F S512x128 .f32 × Vec F S512x32 .f32 × Vec F S512x512 .bf16 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t).1
    | ⟨17, _⟩ => (outsAt0 m c t).2.1
    | ⟨18, _⟩ => (outsAt0 m c t).2.2.1
    | ⟨19, _⟩ => (outsAt0 m c t).2.2.2.1
    | ⟨20, _⟩ => (outsAt0 m c t).2.2.2.2.1
    | ⟨21, _⟩ => (outsAt0 m c t).2.2.2.2.2.1
    | ⟨22, _⟩ => (outsAt0 m c t).2.2.2.2.2.2
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t).1 := by dsimp only [dats]
theorem after0_17 (c : Dev nD) (t : Fin cfg0.N) : (dats m 0 c).after 17 t = (outsAt0 m c t).2.1 := by dsimp only [dats]
theorem after0_18 (c : Dev nD) (t : Fin cfg0.N) : (dats m 0 c).after 18 t = (outsAt0 m c t).2.2.1 := by dsimp only [dats]
theorem after0_19 (c : Dev nD) (t : Fin cfg0.N) : (dats m 0 c).after 19 t = (outsAt0 m c t).2.2.2.1 := by dsimp only [dats]
theorem after0_20 (c : Dev nD) (t : Fin cfg0.N) : (dats m 0 c).after 20 t = (outsAt0 m c t).2.2.2.2.1 := by dsimp only [dats]
theorem after0_21 (c : Dev nD) (t : Fin cfg0.N) : (dats m 0 c).after 21 t = (outsAt0 m c t).2.2.2.2.2.1 := by dsimp only [dats]
theorem after0_22 (c : Dev nD) (t : Fin cfg0.N) : (dats m 0 c).after 22 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel5Ideal.Gen

end
-- ==== Proof.ProjKernel.lean ====
/- Hand-written, untrusted: what the projections' kernel leaves in four of its result arrays, at a token and a column. -/
module

public import proofs.«01_k».proof.Proof.ProjFrame
public import proofs.«01_k».proof.Proof.ProjRows
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Proj

open Cert.Kernel5Ideal Cert.Kernel5Ideal.Gen

/-- The body's projection over its loaded blocks. -/
def proj (md : FVec Ideal S1x9x1024 .f32) (h : FVec Ideal S512x1024 .f32) (ng : FVec Ideal S1x1024 .f32)
    (w : FVec Ideal S1024x1664 .bf16) : FVec Ideal S512x1664 .f32 :=
  k0_pay8 (F := Ideal) (k0_pay4 md) (k0_pay5 h) (k0_pay6 ng) (k0_pay7 h) w

/-- Where a column of the staged weights comes from, for the columns the four results read. -/
def src (x : Fin 1664) : Fin 4512 := ⟨if x.val < 1152 then x.val else x.val - 256, by split <;> omega⟩

/-- The weights' column of a gated branch's column. -/
def hyCol (j : Fin 768) : Fin 4512 := ⟨j.val, by omega⟩

/-- The weights' column of a shared rotary column. -/
def krCol (j : Fin 32) : Fin 4512 := ⟨1152 + j.val, by omega⟩

/-- The body's projection at a row and a column. -/
theorem proj_at (md h ng w) (wi : Fin 1024 → Fin 4512 → EReal) (r : Fin 512) (x : Fin 1664)
    (hw : ∀ k : Fin 1024, w (ix2 k x) = wi k (src x)) :
    proj md h ng w (ix2 r x)
      = Rows.cols (Rows.nrm (fun k => h (ix2 r k)) (fun k => ng (ix2 0 k)) (fun k => md (ix3 0 4 k)) (fun k => md (ix3 0 3 k)))
        wi (src x) := by
  pointwise [proj, k0_pay4, k0_pay5, k0_pay6, k0_pay7, k0_pay8, Rows.cols, Rows.nrm, Rows.rms]
  simp only [hw]

theorem hyPay_at (md h ng w) (r : Fin 512) (j : Fin 768) :
    k0_pay9 (F := Ideal) (k0_pay4 md) (k0_pay5 h) (k0_pay6 ng) (k0_pay7 h) w (ix2 r j)
      = proj md h ng w (ix2 r ⟨j.val, by omega⟩) := by
  unfold k0_pay9; change extractStridedSlice _ _ (proj md h ng w) _ _ = _
  pointwise

theorem kaPay_at (md h ng w) (r : Fin 512) (j : Fin 128) :
    k0_pay10 (F := Ideal) (k0_pay4 md) (k0_pay5 h) (k0_pay6 ng) (k0_pay7 h) w (ix2 r j)
      = proj md h ng w (ix2 r ⟨1024 + j.val, by omega⟩) := by
  unfold k0_pay10; change extractStridedSlice _ _ (proj md h ng w) _ _ = _
  pointwise

theorem krPay_at (md h ng w) (r : Fin 512) (j : Fin 32) :
    k0_pay12 (F := Ideal) (k0_pay4 md) (k0_pay5 h) (k0_pay6 ng) (k0_pay7 h) w (ix2 r j)
      = proj md h ng w (ix2 r ⟨1408 + j.val, by omega⟩) := by
  unfold k0_pay12; change extractStridedSlice _ _ (proj md h ng w) _ _ = _
  pointwise

theorem ckvPay_at (a : FVec Ideal S512x128 .f32) (g : FVec Ideal S1x128 .f32) (r : Fin 512) (j : Fin 128) :
    k0_pay17 (F := Ideal) a g (ix2 r j) = Rows.latent (fun k => a (ix2 r k)) (fun k => g (ix2 0 k)) j := by
  pointwise [k0_pay17, Rows.latent]

theorem vPay_at (a : FVec Ideal S512x128 .f32) (g : FVec Ideal S1x128 .f32) (wv : FVec Ideal S128x512 .bf16) (r : Fin 512) (j : Fin 512) :
    k0_pay2 (F := Ideal) (k0_pay18 a g) wv (ix2 r j)
      = ∑ x : Fin 128, Rows.latent (fun k => a (ix2 r k)) (fun k => g (ix2 0 k)) x * wv (ix2 x j) := by
  pointwise [k0_pay2, k0_pay18, k0_pay17, Rows.latent]

variable (m : (ℓ : Loc nD τ sig) → Buf (Elt Ideal) ℓ)

theorem idx_val : ∀ t : Fin cfg0.N, win0_0.index t = ![t.val, 0]
    ∧ win0_1.index t = ![0, 0, 0]
    ∧ win0_2.index t = ![0, 0]
    ∧ win0_3.index t = ![0, 0]
    ∧ win0_5.index t = ![0, 0]
    ∧ win0_9.index t = ![0, 0]
    ∧ win0_16.index t = ![t.val, 0]
    ∧ win0_19.index t = ![t.val, 0]
    ∧ win0_20.index t = ![t.val, 0]
    ∧ win0_21.index t = ![t.val, 0] :=
  (by decide +kernel : ∀ t : Fin grid0.N, _)

theorem off_val : ∀ t : Fin cfg0.N, k0_off1 (grid0.coords t) = ![if t.val < 8 then 0 else 1 + (t.val - 8) / 4, 0, 0] :=
  (by decide +kernel : ∀ t : Fin grid0.N, _)

theorem cat_at (a b : FVec Ideal S4096x1024 .f32) (r : Fin 8192) (k : Fin 1024) :
    concatenate S8192x1024 0 [⟨S4096x1024, a⟩, ⟨S4096x1024, b⟩] concatenates_S4096x1024_S4096x1024_S8192x1024_d0 (ix2 r k)
      = if h : r.val < 4096 then a (ix2 ⟨r.val, h⟩ k) else b (ix2 ⟨r.val - 4096, by omega⟩ k) := by
  pointwise

theorem prompt_at (a : FVec Ideal S16x256x1024 .f32) (r : Fin 4096) (k : Fin 1024) :
    shapeCast S4096x1024 a shapeCasts_S16x256x1024_S4096x1024 (ix2 r k)
      = a (ix3 ⟨r.val / 256, by omega⟩ ⟨r.val % 256, by omega⟩ k) := by
  pointwise

theorem sample_at (a : FVec Ideal S2x2048x1024 .f32) (r : Fin 4096) (k : Fin 1024) :
    shapeCast S4096x1024 a shapeCasts_S2x2048x1024_S4096x1024 (ix2 r k)
      = a (ix3 ⟨r.val / 2048, by omega⟩ ⟨r.val % 2048, by omega⟩ k) := by
  pointwise

/-- The staged hidden state: the prompts' rows, then the sampled sequences'. -/
theorem hidden_at (c : Dev nD) (r : Fin 8192) (k : Fin 1024) : V m c main_v2 (ix2 r k)
    = Rows.hrow (m ((c : Thread nD τ).loc main_arg0)) (m ((c : Thread nD τ).loc main_arg1)) r k := by
  entry_read
  refine (cat_at _ _ r k).trans ?_
  by_cases h : r.val < 4096
  · have e : r.val / 256 % 16 = r.val / 256 := by omega
    rw [dif_pos h]
    refine (prompt_at _ ⟨r.val, h⟩ k).trans ?_
    simp only [Rows.hrow, h, if_true, e]
  · rw [dif_neg h]
    refine (sample_at _ ⟨r.val - 4096, by omega⟩ k).trans ?_
    simp only [Rows.hrow, h, if_false]

/-- The four pieces of the staged weights, joined. -/
theorem join_at (a : FVec Ideal S1024x1152 .f32) (b : FVec Ideal S1024x256 .f32) (u v : FVec Ideal S1024x128 .f32)
    (k : Fin 1024) (x : Fin 1664) (hc) :
    truncf .bf16 (concatenate S1024x1664 1 [⟨S1024x1152, a⟩, ⟨S1024x256, b⟩, ⟨S1024x128, u⟩, ⟨S1024x128, v⟩] hc) bitsLt_bf16_f32 (ix2 k x)
      = if h : x.val < 1152 then a (ix2 k ⟨x.val, h⟩) else if h' : x.val - 1152 < 256 then b (ix2 k ⟨x.val - 1152, by omega⟩)
        else if h'' : x.val - 1152 - 256 < 128 then u (ix2 k ⟨x.val - 1152 - 256, by omega⟩)
        else v (ix2 k ⟨x.val - 1152 - 256 - 128, by omega⟩) := by
  pointwise

theorem tail_at (w : FVec Ideal S1024x4512 .f32) (z : FVec Ideal S_ .f32) (k : Fin 1024) (y : Fin 128) (hy : y.val < 32) :
    pad S1024x128 ![0, 0] ![0, 96] ![0, 0] (extractStridedSlice S1024x32 ![0, 1152] w slices_S1024x4512_S1024x32_0_1152) z
      pads_S1024x32_S1024x128_000_0960 h_S_ (ix2 k y) = w (ix2 k ⟨1152 + y.val, by omega⟩) := by
  pointwise
  rw [dif_pos (by omega)]

theorem lead_at (w : FVec Ideal S1024x4512 .f32) (k : Fin 1024) (y : Fin 1152) :
    extractStridedSlice S1024x1152 ![0, 0] w slices_S1024x4512_S1024x1152_0_0 (ix2 k y) = w (ix2 k ⟨y.val, by omega⟩) := by
  pointwise

set_option maxHeartbeats 4000000 in
theorem staged_weight (c : Dev nD) : V m c main_v17
    = (truncf .bf16 (concatenate S1024x1664 1
        [⟨S1024x1152, (V m c main_v12 : FVec Ideal S1024x1152 .f32)⟩, ⟨S1024x256, (V m c main_v13 : FVec Ideal S1024x256 .f32)⟩,
         ⟨S1024x128, (V m c main_v14 : FVec Ideal S1024x128 .f32)⟩, ⟨S1024x128, (V m c main_v15 : FVec Ideal S1024x128 .f32)⟩]
        concatenates_S1024x1152_S1024x256_S1024x128_S1024x128_S1024x1664_d1) bitsLt_bf16_f32 : FVec Ideal S1024x1664 .bf16) := by
  rfl

theorem staged_lead (c : Dev nD) : V m c main_v12
    = extractStridedSlice S1024x1152 ![0, 0] (m ((c : Thread nD τ).loc main_arg4)) slices_S1024x4512_S1024x1152_0_0 := by
  rfl

theorem staged_tail (c : Dev nD) : V m c main_v14
    = pad S1024x128 ![0, 0] ![0, 96] ![0, 0]
      (extractStridedSlice S1024x32 ![0, 1152] (m ((c : Thread nD τ).loc main_arg4)) slices_S1024x4512_S1024x32_0_1152)
      (sitofp (F := Ideal) .f32 (constantI S_ 32 0#32)) pads_S1024x32_S1024x128_000_0960 h_S_ := by
  rfl

/-- The staged weights at the columns the four results read. -/
theorem weight_at (c : Dev nD) (k : Fin 1024) (x : Fin 1664) (hx : x.val < 1152 ∨ 1408 ≤ x.val ∧ x.val < 1440) :
    V m c main_v17 (ix2 k x) = m ((c : Thread nD τ).loc main_arg4) (ix2 k (src x)) := by
  rw [staged_weight m c]
  refine (join_at _ _ _ _ k x _).trans ?_
  by_cases h : x.val < 1152
  · rw [dif_pos h, staged_lead m c]
    refine (lead_at _ k _).trans ?_
    have e : src x = ⟨x.val, by omega⟩ := by apply Fin.ext; simp only [src, h, if_true]
    rw [e]
  · have h2 : ¬ x.val - 1152 < 256 := by omega
    have h3 : x.val - 1152 - 256 < 128 := by omega
    rw [dif_neg h, dif_neg h2, dif_pos h3, staged_tail m c]
    refine (tail_at _ _ k _ (by show x.val - 1152 - 256 < 32; omega)).trans ?_
    have e : src x = ⟨1152 + (x.val - 1152 - 256), by omega⟩ := by
      apply Fin.ext; simp only [src, h, if_false]; omega
    rw [e]

/-- The staged weights of the values. -/
theorem val_weight_at (c : Dev nD) (x : Fin 128) (j : Fin 512) :
    V m c main_v43 (ix2 x j) = m ((c : Thread nD τ).loc main_arg8) (ix2 x (Rows.valueCol j)) := by
  have e : V m c main_v43 = (truncf .bf16 (shapeCast S128x512 (extractStridedSlice S128x8x64 ![0, 0, 64]
      (shapeCast S128x8x128 (m ((c : Thread nD τ).loc main_arg8) : FVec Ideal S128x1024 .f32) shapeCasts_S128x1024_S128x8x128)
      slices_S128x8x128_S128x8x64_0_0_64) shapeCasts_S128x8x64_S128x512) bitsLt_bf16_f32 : FVec Ideal S128x512 .bf16) := by
    rfl
  rw [e]
  pointwise [Rows.valueCol]

/-- The staged gain of the mixers' norm. -/
theorem gain_at (c : Dev nD) (k : Fin 1024) :
    V m c main_v44 (ix2 0 k) = m ((c : Thread nD τ).loc main_arg3) (ix2 1 k) := by
  have e : V m c main_v44 = extractStridedSlice S1x1024 ![1, 0] (m ((c : Thread nD τ).loc main_arg3) : FVec Ideal S3x1024 .f32)
      slices_S3x1024_S1x1024_1_0 := by rfl
  rw [e]
  pointwise

/-- The staged gain of the latent keys' norm. -/
theorem latent_gain_at (c : Dev nD) (k : Fin 128) :
    V m c main_v46 (ix2 0 k) = m ((c : Thread nD τ).loc main_arg6) (ix1 k) := by
  have e : V m c main_v46 = broadcastInDim S1x128 ![1] bcast_S128_S1x128_1 (m ((c : Thread nD τ).loc main_arg6) : FVec Ideal S128 .f32) := by rfl
  rw [e]
  pointwise

/-- The loaded modulation, at a point. -/
theorem mods_at (c : Dev nD) (t : Fin cfg0.N) (r : Fin 8192) (hr : r.val / 512 = t.val) (i : Fin 9) (k : Fin 1024) (inb) :
    View.ld (iblk m c 1 t) (Rect.unit (s := S3x9x1024) (k0_off1 (grid0.coords t)) ![1, 9, 1024] inb) (ix3 0 i k)
      = m ((c : Thread nD τ).loc main_arg2) (ix3 (Rows.grp r) i k) := by
  have hg : (Rows.grp r : ℕ) = if t.val < 8 then 0 else 1 + (t.val - 8) / 4 := by
    unfold Rows.grp
    by_cases h : r.val < 4096
    · rw [if_pos h, if_pos (by omega)]; rfl
    · rw [if_neg h, if_neg (by omega)]
      show 1 + (r.val - 4096) / 2048 = _
      omega
  pointwise
  blk_simp [iblk, idx_val t, off_val t]
  blk_ext [V_main_arg2 m c, idx_val t, hg]

/-- A row of the staged hidden state's block. -/
theorem hblk_at (c : Dev nD) (t : Fin cfg0.N) (r : Fin 8192) (y0 : Fin 512) (hr : r.val = t.val * 512 + y0.val) (k : Fin 1024) :
    iblk m c 0 t (ix2 y0 k : S512x1024.Idx)
      = Rows.hrow (m ((c : Thread nD τ).loc main_arg0)) (m ((c : Thread nD τ).loc main_arg1)) r k := by
  refine Eq.trans ?_ (hidden_at m c r k)
  blk_ext [iblk, idx_val t, hr]

theorem gblk_at (c : Dev nD) (t : Fin cfg0.N) (k : Fin 1024) :
    iblk m c 2 t (ix2 0 k : S1x1024.Idx) = m ((c : Thread nD τ).loc main_arg3) (ix2 1 k) := by
  refine Eq.trans ?_ (gain_at m c k)
  blk_ext [iblk, idx_val t]

theorem wblk_at (c : Dev nD) (t : Fin cfg0.N) (k : Fin 1024) (x : Fin 1664) (hx : x.val < 1152 ∨ 1408 ≤ x.val ∧ x.val < 1440) :
    iblk m c 3 t (ix2 k x : S1024x1664.Idx) = m ((c : Thread nD τ).loc main_arg4) (ix2 k (src x)) := by
  refine Eq.trans ?_ (weight_at m c k x hx)
  blk_ext [iblk, idx_val t]

theorem lblk_at (c : Dev nD) (t : Fin cfg0.N) (k : Fin 128) :
    iblk m c 5 t (ix2 0 k : S1x128.Idx) = m ((c : Thread nD τ).loc main_arg6) (ix1 k) := by
  refine Eq.trans ?_ (latent_gain_at m c k)
  blk_ext [iblk, idx_val t]

theorem vblk_at (c : Dev nD) (t : Fin cfg0.N) (x : Fin 128) (j : Fin 512) :
    iblk m c 9 t (ix2 x j : S128x512.Idx) = m ((c : Thread nD τ).loc main_arg8) (ix2 x (Rows.valueCol j)) := by
  refine Eq.trans ?_ (val_weight_at m c x j)
  blk_ext [iblk, idx_val t]

/-- The body's projection over a point's blocks, at a token and a column the four results read. -/
theorem proj_blk (c : Dev nD) (t : Fin cfg0.N) (md : FVec Ideal S1x9x1024 .f32) (h : FVec Ideal S512x1024 .f32)
    (ng : FVec Ideal S1x1024 .f32) (w : FVec Ideal S1024x1664 .bf16) (r : Fin 8192) (y0 : Fin 512)
    (hm : ∀ i k, md (ix3 0 i k) = m ((c : Thread nD τ).loc main_arg2) (ix3 (Rows.grp r) i k))
    (hh : ∀ k, h (ix2 y0 k) = Rows.hrow (m ((c : Thread nD τ).loc main_arg0)) (m ((c : Thread nD τ).loc main_arg1)) r k)
    (hg : ∀ k, ng (ix2 0 k) = m ((c : Thread nD τ).loc main_arg3) (ix2 1 k))
    (x : Fin 1664) (hw : ∀ k, w (ix2 k x) = m ((c : Thread nD τ).loc main_arg4) (ix2 k (src x))) (x' : Fin 4512) (hx : src x = x') :
    proj md h ng w (ix2 y0 x) = Rows.projAt (m ((c : Thread nD τ).loc main_arg0)) (m ((c : Thread nD τ).loc main_arg1)) (m ((c : Thread nD τ).loc main_arg2)) (m ((c : Thread nD τ).loc main_arg3)) (m ((c : Thread nD τ).loc main_arg4)) r x' := by
  refine (proj_at md h ng w (fun k x => (m ((c : Thread nD τ).loc main_arg4) : FVec Ideal S1024x4512 .f32) (ix2 k x)) y0 x hw).trans ?_
  exact Rows.cols_congr (Rows.nrm_congr hh hg (hm 4) (hm 3)) (fun _ _ => rfl) hx

/-- The gated branch's projection in the first result array. -/
theorem final_hy (c : Dev nD) : (dats m 0 c).arrAt 16 (cfgs 0).N
    = fun i : S8192x768.Idx => Rows.projAt (m ((c : Thread nD τ).loc main_arg0)) (m ((c : Thread nD τ).loc main_arg1)) (m ((c : Thread nD τ).loc main_arg2)) (m ((c : Thread nD τ).loc main_arg3)) (m ((c : Thread nD τ).loc main_arg4)) (i 0) (hyCol (i 1)) := by
  refine (dats m 0 c).arrAt_eq_of_covers 16 _ (by decide +kernel) fun t hf y => ?_
  blk_simp; rw [after0_16]
  unfold Gen.outsAt0
  frame_out
  have ht : t.val < 16 := lt_of_lt_of_eq t.isLt N_0
  have ey : y = (ix2 (y 0) (y 1) : S512x768.Idx) := eq_ix2 y
  rw [ey]
  have hy : (y 0 : ℕ) < 512 := (y 0).isLt
  have hr : ((((View.whole main_v47_0).slice (win0_16.rect t)).emb (ix2 (y 0) (y 1) : S512x768.Idx) 0 : Fin 8192) : ℕ) = t.val * 512 + (y 0 : ℕ) := by
    blk_simp [idx_val t]
  have hj : (((View.whole main_v47_0).slice (win0_16.rect t)).emb (ix2 (y 0) (y 1) : S512x768.Idx) 1 : Fin 768) = y 1 := by
    apply Fin.ext; blk_simp [idx_val t]
  generalize (((View.whole main_v47_0).slice (win0_16.rect t)).emb (ix2 (y 0) (y 1) : S512x768.Idx) 0 : Fin 8192) = r at hr ⊢
  have hl : (y 1 : ℕ) < 768 := (y 1).isLt
  rw [hj]
  generalize y 1 = j at hl ⊢
  have hp := fun (inb) x hx x' hx' => proj_blk m c t _ _ _ _ r (y 0) (mods_at m c t r (by omega) · · inb) (hblk_at m c t r (y 0) hr) (gblk_at m c t)
    x (fun k => wblk_at m c t k x hx) x' hx'
  refine (hyPay_at _ _ _ _ (y 0) j).trans (hp _ _ (.inl (by show j.val < 1152; omega)) _ ?_)
  apply Fin.ext; show (if j.val < 1152 then j.val else j.val - 256) = j.val; rw [if_pos (by omega)]

/-- The latent keys in their result array. -/
theorem final_ckv (c : Dev nD) : (dats m 0 c).arrAt 20 (cfgs 0).N
    = fun i : S8192x128.Idx => Rows.ckvAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (i 0) (i 1) := by
  refine (dats m 0 c).arrAt_eq_of_covers 20 _ (by decide +kernel) fun t hf y => ?_
  blk_simp; rw [after0_20]
  unfold Gen.outsAt0
  frame_out
  have ht : t.val < 16 := lt_of_lt_of_eq t.isLt N_0
  have ey : y = (ix2 (y 0) (y 1) : S512x128.Idx) := eq_ix2 y
  rw [ey]
  have hy : (y 0 : ℕ) < 512 := (y 0).isLt
  have hr : ((((View.whole main_v47_4).slice (win0_20.rect t)).emb (ix2 (y 0) (y 1) : S512x128.Idx) 0 : Fin 8192) : ℕ) = t.val * 512 + (y 0 : ℕ) := by
    blk_simp [idx_val t]
  have hj : (((View.whole main_v47_4).slice (win0_20.rect t)).emb (ix2 (y 0) (y 1) : S512x128.Idx) 1 : Fin 128) = y 1 := by
    apply Fin.ext; blk_simp [idx_val t]
  generalize (((View.whole main_v47_4).slice (win0_20.rect t)).emb (ix2 (y 0) (y 1) : S512x128.Idx) 0 : Fin 8192) = r at hr ⊢
  have hl : (y 1 : ℕ) < 128 := (y 1).isLt
  rw [hj]
  generalize y 1 = j at hl ⊢
  have hp := fun (inb) x hx x' hx' => proj_blk m c t _ _ _ _ r (y 0) (mods_at m c t r (by omega) · · inb) (hblk_at m c t r (y 0) hr) (gblk_at m c t)
    x (fun k => wblk_at m c t k x hx) x' hx'
  refine (ckvPay_at _ _ (y 0) j).trans (Rows.latent_congr (fun k => (kaPay_at _ _ _ _ (y 0) k).trans (hp _ _ (.inl (by show 1024 + k.val < 1152; omega)) _ ?_)) (lblk_at m c t) rfl)
  apply Fin.ext; show (if 1024 + k.val < 1152 then 1024 + k.val else 1024 + k.val - 256) = 1024 + k.val; rw [if_pos (by omega)]

/-- The shared rotary columns in their result array. -/
theorem final_kr (c : Dev nD) : (dats m 0 c).arrAt 21 (cfgs 0).N
    = fun i : S8192x32.Idx => Rows.projAt (m ((c : Thread nD τ).loc main_arg0)) (m ((c : Thread nD τ).loc main_arg1)) (m ((c : Thread nD τ).loc main_arg2)) (m ((c : Thread nD τ).loc main_arg3)) (m ((c : Thread nD τ).loc main_arg4)) (i 0) (krCol (i 1)) := by
  refine (dats m 0 c).arrAt_eq_of_covers 21 _ (by decide +kernel) fun t hf y => ?_
  blk_simp; rw [after0_21]
  unfold Gen.outsAt0
  frame_out
  have ht : t.val < 16 := lt_of_lt_of_eq t.isLt N_0
  have ey : y = (ix2 (y 0) (y 1) : S512x32.Idx) := eq_ix2 y
  rw [ey]
  have hy : (y 0 : ℕ) < 512 := (y 0).isLt
  have hr : ((((View.whole main_v47_5).slice (win0_21.rect t)).emb (ix2 (y 0) (y 1) : S512x32.Idx) 0 : Fin 8192) : ℕ) = t.val * 512 + (y 0 : ℕ) := by
    blk_simp [idx_val t]
  have hj : (((View.whole main_v47_5).slice (win0_21.rect t)).emb (ix2 (y 0) (y 1) : S512x32.Idx) 1 : Fin 32) = y 1 := by
    apply Fin.ext; blk_simp [idx_val t]
  generalize (((View.whole main_v47_5).slice (win0_21.rect t)).emb (ix2 (y 0) (y 1) : S512x32.Idx) 0 : Fin 8192) = r at hr ⊢
  have hl : (y 1 : ℕ) < 32 := (y 1).isLt
  rw [hj]
  generalize y 1 = j at hl ⊢
  have hp := fun (inb) x hx x' hx' => proj_blk m c t _ _ _ _ r (y 0) (mods_at m c t r (by omega) · · inb) (hblk_at m c t r (y 0) hr) (gblk_at m c t)
    x (fun k => wblk_at m c t k x hx) x' hx'
  refine (krPay_at _ _ _ _ (y 0) j).trans (hp _ _ (.inr (by show 1408 ≤ 1408 + j.val ∧ 1408 + j.val < 1440; omega)) _ ?_)
  apply Fin.ext; show (if 1408 + j.val < 1152 then 1408 + j.val else 1408 + j.val - 256) = 1152 + j.val; rw [if_neg (by omega)]; omega

/-- The values in their result array. -/
theorem final_v (c : Dev nD) : (dats m 0 c).arrAt 19 (cfgs 0).N
    = fun i : S8192x512.Idx => Rows.valAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (i 0) (i 1) := by
  refine (dats m 0 c).arrAt_eq_of_covers 19 _ (by decide +kernel) fun t hf y => ?_
  blk_simp; rw [after0_19]
  unfold Gen.outsAt0
  frame_out
  have ht : t.val < 16 := lt_of_lt_of_eq t.isLt N_0
  have ey : y = (ix2 (y 0) (y 1) : S512x512.Idx) := eq_ix2 y
  rw [ey]
  have hy : (y 0 : ℕ) < 512 := (y 0).isLt
  have hr : ((((View.whole main_v47_3).slice (win0_19.rect t)).emb (ix2 (y 0) (y 1) : S512x512.Idx) 0 : Fin 8192) : ℕ) = t.val * 512 + (y 0 : ℕ) := by
    blk_simp [idx_val t]
  have hj : (((View.whole main_v47_3).slice (win0_19.rect t)).emb (ix2 (y 0) (y 1) : S512x512.Idx) 1 : Fin 512) = y 1 := by
    apply Fin.ext; blk_simp [idx_val t]
  generalize (((View.whole main_v47_3).slice (win0_19.rect t)).emb (ix2 (y 0) (y 1) : S512x512.Idx) 0 : Fin 8192) = r at hr ⊢
  have hl : (y 1 : ℕ) < 512 := (y 1).isLt
  rw [hj]
  generalize y 1 = j at hl ⊢
  have hp := fun (inb) x hx x' hx' => proj_blk m c t _ _ _ _ r (y 0) (mods_at m c t r (by omega) · · inb) (hblk_at m c t r (y 0) hr) (gblk_at m c t)
    x (fun k => wblk_at m c t k x hx) x' hx'
  refine (vPay_at _ _ _ (y 0) j).trans (Finset.sum_congr rfl fun x _ => congrArg₂ (· * ·) (Rows.latent_congr (fun k => (kaPay_at _ _ _ _ (y 0) k).trans (hp _ _ (.inl (by show 1024 + k.val < 1152; omega)) _ ?_)) (lblk_at m c t) rfl) (vblk_at m c t x j))
  apply Fin.ext; show (if 1024 + k.val < 1152 then 1024 + k.val else 1024 + k.val - 256) = 1024 + k.val; rw [if_pos (by omega)]

/-- A run leaves the four results at what the windows' write-backs make of them. -/
theorem results (g : Dev nD → PrngReg) :
    θ_run (defs (F := Ideal)) (onTc (τ := τ) (main (F := Ideal))) ⟨m, fun _ => 0, g⟩ (fun r => ∀ c : Dev nD,
      r.2.mem ((c.tc : Thread nD τ).loc main_v47_0) = (dats m 0 c).arrAt 16 (cfgs 0).N
      ∧ r.2.mem ((c.tc : Thread nD τ).loc main_v47_3) = (dats m 0 c).arrAt 19 (cfgs 0).N
      ∧ r.2.mem ((c.tc : Thread nD τ).loc main_v47_4) = (dats m 0 c).arrAt 20 (cfgs 0).N
      ∧ r.2.mem ((c.tc : Thread nD τ).loc main_v47_5) = (dats m 0 c).arrAt 21 (cfgs 0).N) :=
  (θ_run defs _ _).mono (fun r h c => ⟨(h c).1 16, (h c).1 19, (h c).1 20, (h c).1 21⟩) (run_main m g)

end Cert.Kernel5Ideal.Proj

end
-- ==== Proof.ProjClaim.lean ====
/- Hand-written, untrusted: the two programs of the projections leave the same four results. -/
module

public import proofs.«01_k».proof.Defs
public import proofs.«01_k».proof.Proof.ProjRef
public import proofs.«01_k».proof.Proof.ProjKernel
public import Idealize.ShloMosaic.Lib.Claim

@[expose] public section

set_option maxRecDepth 16384

noncomputable section

open Idealize.ShloMosaic Idealize.ShloMosaic.TcCoe Idealize.SL.Sem

namespace Cert.Proj

set_option maxHeartbeats 4000000 in
theorem algebraic : Cert.algebraic_Kernel5Ideal_Reference5Ideal := by
  intro m g m' g' hpre hagree
  refine ⟨fun c => (Cert.Kernel5Ideal.Gen.dats m 0 c).arrAt 16 (Cert.Kernel5Ideal.cfgs 0).N,
    fun c => (Cert.Kernel5Ideal.Gen.dats m 0 c).arrAt 19 (Cert.Kernel5Ideal.cfgs 0).N,
    fun c => (Cert.Kernel5Ideal.Gen.dats m 0 c).arrAt 20 (Cert.Kernel5Ideal.cfgs 0).N,
    fun c => (Cert.Kernel5Ideal.Gen.dats m 0 c).arrAt 21 (Cert.Kernel5Ideal.cfgs 0).N, ?_, ?_⟩
  · refine θ_run_mono (θ_run_and (Cert.Kernel5Ideal.Proj.results m g) (Cert.Kernel5Ideal.Gen.unchanged m g)) ?_
    intro r h c
    exact ⟨(h.1 c).1, (h.1 c).2.1, (h.1 c).2.2.1, (h.1 c).2.2.2, h.2 c⟩
  · refine θ_run_mono (Cert.Reference5Ideal.Value.run m' g') ?_
    intro r h c
    obtain ⟨h0, h1, h2, h3, ha⟩ := h c
    obtain ⟨a0, a1, a2, a3, a4, a5, a6, a7, a8, a9, a10, a11, a12, a13, a14⟩ := hagree c
    refine ⟨h0.trans ?_, h1.trans ?_, h2.trans ?_, h3.trans ?_, ha⟩
    · refine Eq.trans ?_ (Cert.Kernel5Ideal.Proj.final_hy m c).symm
      funext i
      obtain ⟨r, j, rfl⟩ : ∃ (r : Fin 8192) (j : Fin 768), i = ix2 r j := ⟨i 0, i 1, eq_ix2 i⟩
      refine (Cert.Reference5Ideal.Proj.hy_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) r j).trans ?_
      rw [a0, a1, a2, a3, a4]
      rfl
    · refine Eq.trans ?_ (Cert.Kernel5Ideal.Proj.final_v m c).symm
      funext i
      obtain ⟨r, j, rfl⟩ : ∃ (r : Fin 8192) (j : Fin 512), i = ix2 r j := ⟨i 0, i 1, eq_ix2 i⟩
      refine (Cert.Reference5Ideal.Proj.v_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg8)) r j).trans ?_
      rw [a0, a1, a2, a3, a4, a6, a8]
      rfl
    · refine Eq.trans ?_ (Cert.Kernel5Ideal.Proj.final_ckv m c).symm
      funext i
      obtain ⟨r, j, rfl⟩ : ∃ (r : Fin 8192) (j : Fin 128), i = ix2 r j := ⟨i 0, i 1, eq_ix2 i⟩
      refine (Cert.Reference5Ideal.Proj.ckv_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg6)) r j).trans ?_
      rw [a0, a1, a2, a3, a4, a6]
      rfl
    · refine Eq.trans ?_ (Cert.Kernel5Ideal.Proj.final_kr m c).symm
      funext i
      obtain ⟨r, j, rfl⟩ : ∃ (r : Fin 8192) (j : Fin 32), i = ix2 r j := ⟨i 0, i 1, eq_ix2 i⟩
      refine (Cert.Reference5Ideal.Proj.kr_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) r j).trans ?_
      rw [a0, a1, a2, a3, a4]
      rfl

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5.Frame.Runs
public import proofs.«01_k».proof.Proof.Gen.Kernel5Ideal.Frame.Runs
public import proofs.«01_k».proof.Proof.Gen.Reference5Ideal
public import proofs.«01_k».proof.Proof.Gen.Reference5Ideal.Run
public import proofs.«01_k».proof.Proof.ProjWordFrame
public import proofs.«01_k».proof.Proof.AttnClaim
public import proofs.«01_k».proof.Proof.FfnClaim
public import proofs.«01_k».proof.Proof.MixClaim
public import proofs.«01_k».proof.Proof.HalfClaim
public import proofs.«01_k».proof.Proof.ProjClaim
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Attn.pre_facts, by
    haveI := Cert.Attn.pre_facts
    exact ⟨fun m g _ => Cert.Kernel.Gen.frame m g, fun m g _ => Cert.KernelIdeal.Gen.frame m g, fun m g _ => Cert.KernelIdeal.Gen.frame m g,
      fun m g _ => (θ_run _ _ _).mono (fun r h => ⟨fun c => (h c).2, sem_eq_zero_of_no_sems rfl _⟩) (Cert.ReferenceIdeal.Value.run m g), fun m g _ => (θ_run _ _ _).mono (fun r h => ⟨fun c => (h c).2, sem_eq_zero_of_no_sems rfl _⟩) (Cert.ReferenceIdeal.Value.run m g),
      fun m g _ => Cert.Kernel2.Gen.frame m g, fun m g _ => Cert.Kernel2Ideal.Gen.frame m g, fun m g _ => (θ_run _ _ _).mono (fun r h => ⟨fun c => (h c).2, sem_eq_zero_of_no_sems rfl _⟩) (Cert.Reference2Ideal.Value.run m g),
      fun m g _ => Cert.Kernel3.Gen.frame m g, fun m g _ => Cert.Kernel3Ideal.Gen.frame m g, fun m g _ => (θ_run _ _ _).mono (fun r h => ⟨fun c => (h c).2, sem_eq_zero_of_no_sems rfl _⟩) (Cert.Reference3Ideal.Value.run m g),
      fun m g _ => Cert.Kernel4.Gen.frame m g, fun m g _ => Cert.Kernel4Ideal.Gen.frame m g, fun m g _ => (θ_run _ _ _).mono (fun r h => ⟨fun c => (h c).2, sem_eq_zero_of_no_sems rfl _⟩) (Cert.Reference4Ideal.Value.run m g),
      fun m g _ => Cert.Kernel5.Gen.frame m g, fun m g _ => Cert.Kernel5Ideal.Gen.frame m g, fun m g _ => (θ_run _ _ _).mono (fun r h => ⟨fun c => (h c).2.2.2.2, sem_eq_zero_of_no_sems rfl _⟩) (Cert.Reference5Ideal.Value.run m g),
      trivial, Cert.Attn.algebraic _, trivial, Cert.Ffn.algebraic, trivial, Cert.Mix.algebraic, trivial, Cert.Half.algebraic, trivial, Cert.Proj.algebraic⟩⟩

end Cert.Proof

end
